-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_biome_ids [hPre_biome_ids : Cert.Pre_biome_ids.Facts] (m : (ℓ : Loc Cert.KernelIdeal.nD Cert.KernelIdeal.τ Cert.KernelIdeal.sig) → Buf (Elt Ideal) ℓ) : Prop :=
  ∀ c : Dev Cert.KernelIdeal.nD,
    (Cert.Pre_biome_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_biome_ids [hPre_biome_ids : Cert.Pre_biome_ids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_biome_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_biome_ids [hKernelIdeal : Cert.KernelIdeal.Facts] [hPre_biome_ids : Cert.Pre_biome_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_biome_ids m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_biome_ids [hReferenceIdeal : Cert.ReferenceIdeal.Facts] [hPre_biome_ids : Cert.Pre_biome_ids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_biome_ids m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_biome_ids [hKernelIdeal : Cert.KernelIdeal.Facts] [hReferenceIdeal : Cert.ReferenceIdeal.Facts] [hPre_biome_ids : Cert.Pre_biome_ids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_biome_ids m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v431) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_biome_ids : Cert.Pre_biome_ids.Facts),
    quiescent_Kernel (hKernel := hKernel)
    ∧ quiescent_KernelIdeal (hKernelIdeal := hKernelIdeal)
    ∧ quiescent_KernelIdeal_pre_biome_ids (hKernelIdeal := hKernelIdeal) (hPre_biome_ids := hPre_biome_ids)
    ∧ quiescent_ReferenceIdeal (hReferenceIdeal := hReferenceIdeal)
    ∧ quiescent_ReferenceIdeal_pre_biome_ids (hReferenceIdeal := hReferenceIdeal) (hPre_biome_ids := hPre_biome_ids)
    ∧ preserves_Kernel_KernelIdeal
    ∧ algebraic_KernelIdeal_ReferenceIdeal_pre_biome_ids (hKernelIdeal := hKernelIdeal) (hReferenceIdeal := hReferenceIdeal) (hPre_biome_ids := hPre_biome_ids)
-- ==== Pre_biome_ids.lean ====
abbrev S1x512x512 : Shape := ⟨3, ![1, 512, 512]⟩
abbrev S10 : Shape := ⟨1, ![10]⟩
abbrev S_ : Shape := ⟨0, ![]⟩

class Facts : Prop where
  bcast_S_S1x512x512 : S_.BroadcastsInDim S1x512x512 (![] : Fin 0 → Fin S1x512x512.rank)
  reducesTo_S1x512x512_S_d0_1_2 : S1x512x512.ReducesTo [0, 1, 2] S_
  h_S_ : 0 < S_.numel

variable [Facts]

def fn {F : FTy → Type} [FloatOps F] (main_arg0 : FVec F S1x512x512 .f32) (main_arg1 : IVec S1x512x512 32) (main_arg2 : FVec F S10 .f32) : IVec S_ 1 :=
  let main_c : IVec S_ 32 := constantI S_ 32 0#32
  let main_v0 : IVec S1x512x512 32 := broadcastInDim S1x512x512 ![] bcast_S_S1x512x512 main_c
  let main_v1 : IVec S1x512x512 1 := cmpi .sge main_arg1 main_v0
  let main_c_0 : IVec S_ 32 := constantI S_ 32 10#32
  let main_v2 : IVec S1x512x512 32 := broadcastInDim S1x512x512 ![] bcast_S_S1x512x512 main_c_0
  let main_v3 : IVec S1x512x512 1 := cmpi .slt main_arg1 main_v2
  let main_v4 : IVec S1x512x512 1 := andi main_v1 main_v3
  let main_c_1 : IVec S_ 1 := constantI S_ 1 1#1
  let main_v5 : IVec S_ 1 := (fun x v => Host.reduce IntOp.andi x v reducesTo_S1x512x512_S_d0_1_2 h_S_) main_v4 main_c_1
  main_v5
-- ==== Kernel.lean ====
abbrev S1x512x512 : Shape := ⟨3, ![1, 512, 512]⟩
abbrev S10 : Shape := ⟨1, ![10]⟩
abbrev S256x512x512 : Shape := ⟨3, ![256, 512, 512]⟩
abbrev S16x512x512 : Shape := ⟨3, ![16, 512, 512]⟩
abbrev S512x512 : Shape := ⟨2, ![512, 512]⟩
abbrev S1 : Shape := ⟨1, ![1]⟩

abbrev nBuf : Space → Nat
  | .hbm => 4
  | .vmem => 6
  | .smem => 1
  | _ => 0

abbrev bufTy : (tb : Table) → Fin (tcTables nBuf tb) → BufTy
  | .hbm, ⟨0, _⟩ => ⟨S1x512x512, .f32⟩
  | .hbm, ⟨1, _⟩ => ⟨S1x512x512, .i32⟩
  | .hbm, ⟨2, _⟩ => ⟨S10, .f32⟩
  | .hbm, ⟨3, _⟩ => ⟨S256x512x512, .f32⟩
  | .local _ .vmem, ⟨0, _⟩ => ⟨S1x512x512, .f32⟩
  | .local _ .vmem, ⟨1, _⟩ => ⟨S1x512x512, .i32⟩
  | .local _ .vmem, ⟨2, _⟩ => ⟨S16x512x512, .f32⟩
  | .local _ .vmem, ⟨3, _⟩ => ⟨S16x512x512, .f32⟩
  | .local _ .vmem, ⟨4, _⟩ => ⟨S512x512, .i32⟩
  | .local _ .vmem, ⟨5, _⟩ => ⟨S512x512, .f32⟩
  | .local _ .smem, ⟨0, _⟩ => ⟨S10, .f32⟩
  | _, _ => ⟨S1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_scratch0 : Ref sig .tc := ⟨.vmem, 4, rfl⟩
abbrev cc0_scratch1 : Ref sig .tc := ⟨.vmem, 5, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x512x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1x512x512 : Shape := ⟨3, ![1, 512, 512]⟩
abbrev S10 : Shape := ⟨1, ![10]⟩
abbrev S512x512 : Shape := ⟨2, ![512, 512]⟩
abbrev S_ : Shape := ⟨0, ![]⟩
abbrev S512x512x1 : Shape := ⟨3, ![512, 512, 1]⟩
abbrev S1 : Shape := ⟨1, ![1]⟩
abbrev S1x1x1 : Shape := ⟨3, ![1, 1, 1]⟩
abbrev S512 : Shape := ⟨1, ![512]⟩
abbrev S256x512x512 : Shape := ⟨3, ![256, 512, 512]⟩
abbrev S512x512x3 : Shape := ⟨3, ![512, 512, 3]⟩

abbrev nBuf : Space → Nat
  | .hbm => 711
  | .vmem => 0
  | .smem => 0
  | _ => 0

abbrev hbmTy0_0 (i : Nat) : BufTy := match i % 128 with
  | 0 => ⟨S1x512x512, .f32⟩
  | 1 => ⟨S1x512x512, .i32⟩
  | 2 => ⟨S10, .f32⟩
  | 3 => ⟨S512x512, .f32⟩
  | 4 => ⟨S_, .f32⟩
  | 5 => ⟨S512x512, .f32⟩
  | 6 => ⟨S512x512, .f32⟩
  | 7 => ⟨S512x512, .i32⟩
  | 8 => ⟨S_, .i32⟩
  | 9 => ⟨S_, .i32⟩
  | 10 => ⟨S_, .i32⟩
  | 11 => ⟨S512x512, .i32⟩
  | 12 => ⟨S512x512, .i32⟩
  | 13 => ⟨S_, .i32⟩
  | 14 => ⟨S512x512, .i32⟩
  | 15 => ⟨S512x512, .i32⟩
  | 16 => ⟨S512x512, .i32⟩
  | 17 => ⟨S_, .i32⟩
  | 18 => ⟨S512x512, .i32⟩
  | 19 => ⟨S512x512, .i1⟩
  | 20 => ⟨S_, .i32⟩
  | 21 => ⟨S512x512, .i32⟩
  | 22 => ⟨S512x512, .i32⟩
  | 23 => ⟨S512x512, .i32⟩
  | 24 => ⟨S512x512x1, .i32⟩
  | 25 => ⟨S1, .i32⟩
  | 26 => ⟨S_, .i32⟩
  | 27 => ⟨S512x512x1, .i32⟩
  | 28 => ⟨S512x512x1, .i1⟩
  | 29 => ⟨S1x1x1, .i32⟩
  | 30 => ⟨S512x512x1, .i32⟩
  | 31 => ⟨S512x512x1, .i1⟩
  | 32 => ⟨S512x512x1, .i1⟩
  | 33 => ⟨S_, .i1⟩
  | 34 => ⟨S512x512, .i1⟩
  | 35 => ⟨S512x512, .f32⟩
  | 36 => ⟨S_, .f32⟩
  | 37 => ⟨S512x512, .f32⟩
  | 38 => ⟨S512x512, .f32⟩
  | 39 => ⟨S512, .i32⟩
  | 40 => ⟨S512, .i32⟩
  | 41 => ⟨S512x512, .i32⟩
  | 42 => ⟨S512x512, .i32⟩
  | 43 => ⟨S_, .f32⟩
  | 44 => ⟨S256x512x512, .f32⟩
  | 45 => ⟨S_, .i32⟩
  | 46 => ⟨S512x512, .i32⟩
  | 47 => ⟨S512x512, .i1⟩
  | 48 => ⟨S_, .i32⟩
  | 49 => ⟨S512x512, .i32⟩
  | 50 => ⟨S512x512, .i32⟩
  | 51 => ⟨S512x512, .i32⟩
  | 52 => ⟨S_, .i32⟩
  | 53 => ⟨S512x512, .i32⟩
  | 54 => ⟨S512x512, .i1⟩
  | 55 => ⟨S_, .i32⟩
  | 56 => ⟨S512x512, .i32⟩
  | 57 => ⟨S512x512, .i32⟩
  | 58 => ⟨S512x512, .i32⟩
  | 59 => ⟨S_, .i32⟩
  | 60 => ⟨S512x512, .i32⟩
  | 61 => ⟨S512x512, .i1⟩
  | 62 => ⟨S_, .i32⟩
  | 63 => ⟨S512x512, .i32⟩
  | 64 => ⟨S512x512, .i32⟩
  | 65 => ⟨S512x512, .i32⟩
  | 66 => ⟨S512x512x1, .i32⟩
  | 67 => ⟨S512x512x1, .i32⟩
  | 68 => ⟨S512x512x1, .i32⟩
  | 69 => ⟨S512x512x3, .i32⟩
  | 70 => ⟨S256x512x512, .f32⟩
  | 71 => ⟨S_, .i32⟩
  | 72 => ⟨S512x512, .i32⟩
  | 73 => ⟨S512x512, .i32⟩
  | 74 => ⟨S_, .i32⟩
  | 75 => ⟨S512x512, .i32⟩
  | 76 => ⟨S512x512, .i32⟩
  | 77 => ⟨S_, .i32⟩
  | 78 => ⟨S_, .i32⟩
  | 79 => ⟨S_, .i32⟩
  | 80 => ⟨S512x512, .i32⟩
  | 81 => ⟨S512x512, .i32⟩
  | 82 => ⟨S_, .i32⟩
  | 83 => ⟨S512x512, .i32⟩
  | 84 => ⟨S512x512, .i32⟩
  | 85 => ⟨S_, .i32⟩
  | 86 => ⟨S512x512, .i32⟩
  | 87 => ⟨S512x512, .i1⟩
  | 88 => ⟨S_, .i32⟩
  | 89 => ⟨S512x512, .i32⟩
  | 90 => ⟨S512x512, .i32⟩
  | 91 => ⟨S512x512, .i32⟩
  | 92 => ⟨S_, .i32⟩
  | 93 => ⟨S512x512, .i32⟩
  | 94 => ⟨S512x512, .i1⟩
  | 95 => ⟨S_, .i32⟩
  | 96 => ⟨S512x512, .i32⟩
  | 97 => ⟨S512x512, .i32⟩
  | 98 => ⟨S512x512, .i32⟩
  | 99 => ⟨S_, .i32⟩
  | 100 => ⟨S512x512, .i32⟩
  | 101 => ⟨S512x512, .i1⟩
  | 102 => ⟨S_, .i32⟩
  | 103 => ⟨S512x512, .i32⟩
  | 104 => ⟨S512x512, .i32⟩
  | 105 => ⟨S512x512, .i32⟩
  | 106 => ⟨S512x512x1, .i32⟩
  | 107 => ⟨S512x512x1, .i32⟩
  | 108 => ⟨S512x512x1, .i32⟩
  | 109 => ⟨S512x512x3, .i32⟩
  | 110 => ⟨S256x512x512, .f32⟩
  | 111 => ⟨S_, .i32⟩
  | 112 => ⟨S512x512, .i32⟩
  | 113 => ⟨S512x512, .i32⟩
  | 114 => ⟨S_, .i32⟩
  | 115 => ⟨S512x512, .i32⟩
  | 116 => ⟨S512x512, .i32⟩
  | 117 => ⟨S_, .i32⟩
  | 118 => ⟨S_, .i32⟩
  | 119 => ⟨S_, .i32⟩
  | 120 => ⟨S512x512, .i32⟩
  | 121 => ⟨S512x512, .i32⟩
  | 122 => ⟨S_, .i32⟩
  | 123 => ⟨S512x512, .i32⟩
  | 124 => ⟨S512x512, .i32⟩
  | 125 => ⟨S_, .i32⟩
  | 126 => ⟨S512x512, .i32⟩
  | 127 => ⟨S512x512, .i1⟩
  | _ => ⟨S1x512x512, .f32⟩

abbrev hbmTy0_1 (i : Nat) : BufTy := match i % 128 with
  | 0 => ⟨S_, .i32⟩
  | 1 => ⟨S512x512, .i32⟩
  | 2 => ⟨S512x512, .i32⟩
  | 3 => ⟨S512x512, .i32⟩
  | 4 => ⟨S_, .i32⟩
  | 5 => ⟨S512x512, .i32⟩
  | 6 => ⟨S512x512, .i1⟩
  | 7 => ⟨S_, .i32⟩
  | 8 => ⟨S512x512, .i32⟩
  | 9 => ⟨S512x512, .i32⟩
  | 10 => ⟨S512x512, .i32⟩
  | 11 => ⟨S_, .i32⟩
  | 12 => ⟨S512x512, .i32⟩
  | 13 => ⟨S512x512, .i1⟩
  | 14 => ⟨S_, .i32⟩
  | 15 => ⟨S512x512, .i32⟩
  | 16 => ⟨S512x512, .i32⟩
  | 17 => ⟨S512x512, .i32⟩
  | 18 => ⟨S512x512x1, .i32⟩
  | 19 => ⟨S512x512x1, .i32⟩
  | 20 => ⟨S512x512x1, .i32⟩
  | 21 => ⟨S512x512x3, .i32⟩
  | 22 => ⟨S256x512x512, .f32⟩
  | 23 => ⟨S_, .i32⟩
  | 24 => ⟨S512x512, .i32⟩
  | 25 => ⟨S512x512, .i32⟩
  | 26 => ⟨S_, .i32⟩
  | 27 => ⟨S512x512, .i32⟩
  | 28 => ⟨S512x512, .i32⟩
  | 29 => ⟨S_, .i32⟩
  | 30 => ⟨S_, .i32⟩
  | 31 => ⟨S_, .i32⟩
  | 32 => ⟨S512x512, .i32⟩
  | 33 => ⟨S512x512, .i32⟩
  | 34 => ⟨S_, .i32⟩
  | 35 => ⟨S512x512, .i32⟩
  | 36 => ⟨S512x512, .i32⟩
  | 37 => ⟨S_, .i32⟩
  | 38 => ⟨S512x512, .i32⟩
  | 39 => ⟨S512x512, .i1⟩
  | 40 => ⟨S_, .i32⟩
  | 41 => ⟨S512x512, .i32⟩
  | 42 => ⟨S512x512, .i32⟩
  | 43 => ⟨S512x512, .i32⟩
  | 44 => ⟨S_, .i32⟩
  | 45 => ⟨S512x512, .i32⟩
  | 46 => ⟨S512x512, .i1⟩
  | 47 => ⟨S_, .i32⟩
  | 48 => ⟨S512x512, .i32⟩
  | 49 => ⟨S512x512, .i32⟩
  | 50 => ⟨S512x512, .i32⟩
  | 51 => ⟨S_, .i32⟩
  | 52 => ⟨S512x512, .i32⟩
  | 53 => ⟨S512x512, .i1⟩
  | 54 => ⟨S_, .i32⟩
  | 55 => ⟨S512x512, .i32⟩
  | 56 => ⟨S512x512, .i32⟩
  | 57 => ⟨S512x512, .i32⟩
  | 58 => ⟨S512x512x1, .i32⟩
  | 59 => ⟨S512x512x1, .i32⟩
  | 60 => ⟨S512x512x1, .i32⟩
  | 61 => ⟨S512x512x3, .i32⟩
  | 62 => ⟨S256x512x512, .f32⟩
  | 63 => ⟨S_, .i32⟩
  | 64 => ⟨S512x512, .i32⟩
  | 65 => ⟨S512x512, .i32⟩
  | 66 => ⟨S_, .i32⟩
  | 67 => ⟨S512x512, .i32⟩
  | 68 => ⟨S512x512, .i32⟩
  | 69 => ⟨S_, .i32⟩
  | 70 => ⟨S_, .i32⟩
  | 71 => ⟨S_, .i32⟩
  | 72 => ⟨S512x512, .i32⟩
  | 73 => ⟨S512x512, .i32⟩
  | 74 => ⟨S_, .i32⟩
  | 75 => ⟨S512x512, .i32⟩
  | 76 => ⟨S512x512, .i32⟩
  | 77 => ⟨S_, .i32⟩
  | 78 => ⟨S512x512, .i32⟩
  | 79 => ⟨S512x512, .i1⟩
  | 80 => ⟨S_, .i32⟩
  | 81 => ⟨S512x512, .i32⟩
  | 82 => ⟨S512x512, .i32⟩
  | 83 => ⟨S512x512, .i32⟩
  | 84 => ⟨S_, .i32⟩
  | 85 => ⟨S512x512, .i32⟩
  | 86 => ⟨S512x512, .i1⟩
  | 87 => ⟨S_, .i32⟩
  | 88 => ⟨S512x512, .i32⟩
  | 89 => ⟨S512x512, .i32⟩
  | 90 => ⟨S512x512, .i32⟩
  | 91 => ⟨S_, .i32⟩
  | 92 => ⟨S512x512, .i32⟩
  | 93 => ⟨S512x512, .i1⟩
  | 94 => ⟨S_, .i32⟩
  | 95 => ⟨S512x512, .i32⟩
  | 96 => ⟨S512x512, .i32⟩
  | 97 => ⟨S512x512, .i32⟩
  | 98 => ⟨S512x512x1, .i32⟩
  | 99 => ⟨S512x512x1, .i32⟩
  | 100 => ⟨S512x512x1, .i32⟩
  | 101 => ⟨S512x512x3, .i32⟩
  | 102 => ⟨S256x512x512, .f32⟩
  | 103 => ⟨S_, .i32⟩
  | 104 => ⟨S512x512, .i32⟩
  | 105 => ⟨S512x512, .i32⟩
  | 106 => ⟨S_, .i32⟩
  | 107 => ⟨S512x512, .i32⟩
  | 108 => ⟨S512x512, .i32⟩
  | 109 => ⟨S_, .i32⟩
  | 110 => ⟨S_, .i32⟩
  | 111 => ⟨S_, .i32⟩
  | 112 => ⟨S512x512, .i32⟩
  | 113 => ⟨S512x512, .i32⟩
  | 114 => ⟨S_, .i32⟩
  | 115 => ⟨S512x512, .i32⟩
  | 116 => ⟨S512x512, .i32⟩
  | 117 => ⟨S_, .i32⟩
  | 118 => ⟨S512x512, .i32⟩
  | 119 => ⟨S512x512, .i1⟩
  | 120 => ⟨S_, .i32⟩
  | 121 => ⟨S512x512, .i32⟩
  | 122 => ⟨S512x512, .i32⟩
  | 123 => ⟨S512x512, .i32⟩
  | 124 => ⟨S_, .i32⟩
  | 125 => ⟨S512x512, .i32⟩
  | 126 => ⟨S512x512, .i1⟩
  | 127 => ⟨S_, .i32⟩
  | _ => ⟨S1x512x512, .f32⟩

abbrev hbmTy0_2 (i : Nat) : BufTy := match i % 128 with
  | 0 => ⟨S512x512, .i32⟩
  | 1 => ⟨S512x512, .i32⟩
  | 2 => ⟨S512x512, .i32⟩
  | 3 => ⟨S_, .i32⟩
  | 4 => ⟨S512x512, .i32⟩
  | 5 => ⟨S512x512, .i1⟩
  | 6 => ⟨S_, .i32⟩
  | 7 => ⟨S512x512, .i32⟩
  | 8 => ⟨S512x512, .i32⟩
  | 9 => ⟨S512x512, .i32⟩
  | 10 => ⟨S512x512x1, .i32⟩
  | 11 => ⟨S512x512x1, .i32⟩
  | 12 => ⟨S512x512x1, .i32⟩
  | 13 => ⟨S512x512x3, .i32⟩
  | 14 => ⟨S256x512x512, .f32⟩
  | 15 => ⟨S_, .i32⟩
  | 16 => ⟨S512x512, .i32⟩
  | 17 => ⟨S512x512, .i32⟩
  | 18 => ⟨S_, .i32⟩
  | 19 => ⟨S512x512, .i32⟩
  | 20 => ⟨S512x512, .i32⟩
  | 21 => ⟨S_, .i32⟩
  | 22 => ⟨S_, .i32⟩
  | 23 => ⟨S_, .i32⟩
  | 24 => ⟨S512x512, .i32⟩
  | 25 => ⟨S512x512, .i32⟩
  | 26 => ⟨S_, .i32⟩
  | 27 => ⟨S512x512, .i32⟩
  | 28 => ⟨S512x512, .i32⟩
  | 29 => ⟨S_, .i32⟩
  | 30 => ⟨S512x512, .i32⟩
  | 31 => ⟨S512x512, .i1⟩
  | 32 => ⟨S_, .i32⟩
  | 33 => ⟨S512x512, .i32⟩
  | 34 => ⟨S512x512, .i32⟩
  | 35 => ⟨S512x512, .i32⟩
  | 36 => ⟨S_, .i32⟩
  | 37 => ⟨S512x512, .i32⟩
  | 38 => ⟨S512x512, .i1⟩
  | 39 => ⟨S_, .i32⟩
  | 40 => ⟨S512x512, .i32⟩
  | 41 => ⟨S512x512, .i32⟩
  | 42 => ⟨S512x512, .i32⟩
  | 43 => ⟨S_, .i32⟩
  | 44 => ⟨S512x512, .i32⟩
  | 45 => ⟨S512x512, .i1⟩
  | 46 => ⟨S_, .i32⟩
  | 47 => ⟨S512x512, .i32⟩
  | 48 => ⟨S512x512, .i32⟩
  | 49 => ⟨S512x512, .i32⟩
  | 50 => ⟨S512x512x1, .i32⟩
  | 51 => ⟨S512x512x1, .i32⟩
  | 52 => ⟨S512x512x1, .i32⟩
  | 53 => ⟨S512x512x3, .i32⟩
  | 54 => ⟨S256x512x512, .f32⟩
  | 55 => ⟨S_, .i32⟩
  | 56 => ⟨S512x512, .i32⟩
  | 57 => ⟨S512x512, .i32⟩
  | 58 => ⟨S_, .i32⟩
  | 59 => ⟨S512x512, .i32⟩
  | 60 => ⟨S512x512, .i32⟩
  | 61 => ⟨S_, .i32⟩
  | 62 => ⟨S_, .i32⟩
  | 63 => ⟨S_, .i32⟩
  | 64 => ⟨S512x512, .i32⟩
  | 65 => ⟨S512x512, .i32⟩
  | 66 => ⟨S_, .i32⟩
  | 67 => ⟨S512x512, .i32⟩
  | 68 => ⟨S512x512, .i32⟩
  | 69 => ⟨S_, .i32⟩
  | 70 => ⟨S512x512, .i32⟩
  | 71 => ⟨S512x512, .i1⟩
  | 72 => ⟨S_, .i32⟩
  | 73 => ⟨S512x512, .i32⟩
  | 74 => ⟨S512x512, .i32⟩
  | 75 => ⟨S512x512, .i32⟩
  | 76 => ⟨S_, .i32⟩
  | 77 => ⟨S512x512, .i32⟩
  | 78 => ⟨S512x512, .i1⟩
  | 79 => ⟨S_, .i32⟩
  | 80 => ⟨S512x512, .i32⟩
  | 81 => ⟨S512x512, .i32⟩
  | 82 => ⟨S512x512, .i32⟩
  | 83 => ⟨S_, .i32⟩
  | 84 => ⟨S512x512, .i32⟩
  | 85 => ⟨S512x512, .i1⟩
  | 86 => ⟨S_, .i32⟩
  | 87 => ⟨S512x512, .i32⟩
  | 88 => ⟨S512x512, .i32⟩
  | 89 => ⟨S512x512, .i32⟩
  | 90 => ⟨S512x512x1, .i32⟩
  | 91 => ⟨S512x512x1, .i32⟩
  | 92 => ⟨S512x512x1, .i32⟩
  | 93 => ⟨S512x512x3, .i32⟩
  | 94 => ⟨S256x512x512, .f32⟩
  | 95 => ⟨S_, .i32⟩
  | 96 => ⟨S512x512, .i32⟩
  | 97 => ⟨S512x512, .i32⟩
  | 98 => ⟨S_, .i32⟩
  | 99 => ⟨S512x512, .i32⟩
  | 100 => ⟨S512x512, .i32⟩
  | 101 => ⟨S_, .i32⟩
  | 102 => ⟨S_, .i32⟩
  | 103 => ⟨S_, .i32⟩
  | 104 => ⟨S512x512, .i32⟩
  | 105 => ⟨S512x512, .i32⟩
  | 106 => ⟨S_, .i32⟩
  | 107 => ⟨S512x512, .i32⟩
  | 108 => ⟨S512x512, .i32⟩
  | 109 => ⟨S_, .i32⟩
  | 110 => ⟨S512x512, .i32⟩
  | 111 => ⟨S512x512, .i1⟩
  | 112 => ⟨S_, .i32⟩
  | 113 => ⟨S512x512, .i32⟩
  | 114 => ⟨S512x512, .i32⟩
  | 115 => ⟨S512x512, .i32⟩
  | 116 => ⟨S_, .i32⟩
  | 117 => ⟨S512x512, .i32⟩
  | 118 => ⟨S512x512, .i1⟩
  | 119 => ⟨S_, .i32⟩
  | 120 => ⟨S512x512, .i32⟩
  | 121 => ⟨S512x512, .i32⟩
  | 122 => ⟨S512x512, .i32⟩
  | 123 => ⟨S_, .i32⟩
  | 124 => ⟨S512x512, .i32⟩
  | 125 => ⟨S512x512, .i1⟩
  | 126 => ⟨S_, .i32⟩
  | 127 => ⟨S512x512, .i32⟩
  | _ => ⟨S1x512x512, .f32⟩

abbrev hbmTy0_3 (i : Nat) : BufTy := match i % 128 with
  | 0 => ⟨S512x512, .i32⟩
  | 1 => ⟨S512x512, .i32⟩
  | 2 => ⟨S512x512x1, .i32⟩
  | 3 => ⟨S512x512x1, .i32⟩
  | 4 => ⟨S512x512x1, .i32⟩
  | 5 => ⟨S512x512x3, .i32⟩
  | 6 => ⟨S256x512x512, .f32⟩
  | 7 => ⟨S_, .i32⟩
  | 8 => ⟨S512x512, .i32⟩
  | 9 => ⟨S512x512, .i32⟩
  | 10 => ⟨S_, .i32⟩
  | 11 => ⟨S512x512, .i32⟩
  | 12 => ⟨S512x512, .i32⟩
  | 13 => ⟨S_, .i32⟩
  | 14 => ⟨S_, .i32⟩
  | 15 => ⟨S_, .i32⟩
  | 16 => ⟨S512x512, .i32⟩
  | 17 => ⟨S512x512, .i32⟩
  | 18 => ⟨S_, .i32⟩
  | 19 => ⟨S512x512, .i32⟩
  | 20 => ⟨S512x512, .i32⟩
  | 21 => ⟨S_, .i32⟩
  | 22 => ⟨S512x512, .i32⟩
  | 23 => ⟨S512x512, .i1⟩
  | 24 => ⟨S_, .i32⟩
  | 25 => ⟨S512x512, .i32⟩
  | 26 => ⟨S512x512, .i32⟩
  | 27 => ⟨S512x512, .i32⟩
  | 28 => ⟨S_, .i32⟩
  | 29 => ⟨S512x512, .i32⟩
  | 30 => ⟨S512x512, .i1⟩
  | 31 => ⟨S_, .i32⟩
  | 32 => ⟨S512x512, .i32⟩
  | 33 => ⟨S512x512, .i32⟩
  | 34 => ⟨S512x512, .i32⟩
  | 35 => ⟨S_, .i32⟩
  | 36 => ⟨S512x512, .i32⟩
  | 37 => ⟨S512x512, .i1⟩
  | 38 => ⟨S_, .i32⟩
  | 39 => ⟨S512x512, .i32⟩
  | 40 => ⟨S512x512, .i32⟩
  | 41 => ⟨S512x512, .i32⟩
  | 42 => ⟨S512x512x1, .i32⟩
  | 43 => ⟨S512x512x1, .i32⟩
  | 44 => ⟨S512x512x1, .i32⟩
  | 45 => ⟨S512x512x3, .i32⟩
  | 46 => ⟨S256x512x512, .f32⟩
  | 47 => ⟨S_, .i32⟩
  | 48 => ⟨S512x512, .i32⟩
  | 49 => ⟨S512x512, .i32⟩
  | 50 => ⟨S_, .i32⟩
  | 51 => ⟨S512x512, .i32⟩
  | 52 => ⟨S512x512, .i32⟩
  | 53 => ⟨S_, .i32⟩
  | 54 => ⟨S_, .i32⟩
  | 55 => ⟨S_, .i32⟩
  | 56 => ⟨S512x512, .i32⟩
  | 57 => ⟨S512x512, .i32⟩
  | 58 => ⟨S_, .i32⟩
  | 59 => ⟨S512x512, .i32⟩
  | 60 => ⟨S512x512, .i32⟩
  | 61 => ⟨S_, .i32⟩
  | 62 => ⟨S512x512, .i32⟩
  | 63 => ⟨S512x512, .i1⟩
  | 64 => ⟨S_, .i32⟩
  | 65 => ⟨S512x512, .i32⟩
  | 66 => ⟨S512x512, .i32⟩
  | 67 => ⟨S512x512, .i32⟩
  | 68 => ⟨S_, .i32⟩
  | 69 => ⟨S512x512, .i32⟩
  | 70 => ⟨S512x512, .i1⟩
  | 71 => ⟨S_, .i32⟩
  | 72 => ⟨S512x512, .i32⟩
  | 73 => ⟨S512x512, .i32⟩
  | 74 => ⟨S512x512, .i32⟩
  | 75 => ⟨S_, .i32⟩
  | 76 => ⟨S512x512, .i32⟩
  | 77 => ⟨S512x512, .i1⟩
  | 78 => ⟨S_, .i32⟩
  | 79 => ⟨S512x512, .i32⟩
  | 80 => ⟨S512x512, .i32⟩
  | 81 => ⟨S512x512, .i32⟩
  | 82 => ⟨S512x512x1, .i32⟩
  | 83 => ⟨S512x512x1, .i32⟩
  | 84 => ⟨S512x512x1, .i32⟩
  | 85 => ⟨S512x512x3, .i32⟩
  | 86 => ⟨S256x512x512, .f32⟩
  | 87 => ⟨S_, .i32⟩
  | 88 => ⟨S512x512, .i32⟩
  | 89 => ⟨S512x512, .i32⟩
  | 90 => ⟨S_, .i32⟩
  | 91 => ⟨S512x512, .i32⟩
  | 92 => ⟨S512x512, .i32⟩
  | 93 => ⟨S_, .i32⟩
  | 94 => ⟨S_, .i32⟩
  | 95 => ⟨S_, .i32⟩
  | 96 => ⟨S512x512, .i32⟩
  | 97 => ⟨S512x512, .i32⟩
  | 98 => ⟨S_, .i32⟩
  | 99 => ⟨S512x512, .i32⟩
  | 100 => ⟨S512x512, .i32⟩
  | 101 => ⟨S_, .i32⟩
  | 102 => ⟨S512x512, .i32⟩
  | 103 => ⟨S512x512, .i1⟩
  | 104 => ⟨S_, .i32⟩
  | 105 => ⟨S512x512, .i32⟩
  | 106 => ⟨S512x512, .i32⟩
  | 107 => ⟨S512x512, .i32⟩
  | 108 => ⟨S_, .i32⟩
  | 109 => ⟨S512x512, .i32⟩
  | 110 => ⟨S512x512, .i1⟩
  | 111 => ⟨S_, .i32⟩
  | 112 => ⟨S512x512, .i32⟩
  | 113 => ⟨S512x512, .i32⟩
  | 114 => ⟨S512x512, .i32⟩
  | 115 => ⟨S_, .i32⟩
  | 116 => ⟨S512x512, .i32⟩
  | 117 => ⟨S512x512, .i1⟩
  | 118 => ⟨S_, .i32⟩
  | 119 => ⟨S512x512, .i32⟩
  | 120 => ⟨S512x512, .i32⟩
  | 121 => ⟨S512x512, .i32⟩
  | 122 => ⟨S512x512x1, .i32⟩
  | 123 => ⟨S512x512x1, .i32⟩
  | 124 => ⟨S512x512x1, .i32⟩
  | 125 => ⟨S512x512x3, .i32⟩
  | 126 => ⟨S256x512x512, .f32⟩
  | 127 => ⟨S_, .i32⟩
  | _ => ⟨S1x512x512, .f32⟩

abbrev hbmTy0_4 (i : Nat) : BufTy := match i % 128 with
  | 0 => ⟨S512x512, .i32⟩
  | 1 => ⟨S512x512, .i32⟩
  | 2 => ⟨S_, .i32⟩
  | 3 => ⟨S512x512, .i32⟩
  | 4 => ⟨S512x512, .i32⟩
  | 5 => ⟨S_, .i32⟩
  | 6 => ⟨S_, .i32⟩
  | 7 => ⟨S_, .i32⟩
  | 8 => ⟨S512x512, .i32⟩
  | 9 => ⟨S512x512, .i32⟩
  | 10 => ⟨S_, .i32⟩
  | 11 => ⟨S512x512, .i32⟩
  | 12 => ⟨S512x512, .i32⟩
  | 13 => ⟨S_, .i32⟩
  | 14 => ⟨S512x512, .i32⟩
  | 15 => ⟨S512x512, .i1⟩
  | 16 => ⟨S_, .i32⟩
  | 17 => ⟨S512x512, .i32⟩
  | 18 => ⟨S512x512, .i32⟩
  | 19 => ⟨S512x512, .i32⟩
  | 20 => ⟨S_, .i32⟩
  | 21 => ⟨S512x512, .i32⟩
  | 22 => ⟨S512x512, .i1⟩
  | 23 => ⟨S_, .i32⟩
  | 24 => ⟨S512x512, .i32⟩
  | 25 => ⟨S512x512, .i32⟩
  | 26 => ⟨S512x512, .i32⟩
  | 27 => ⟨S_, .i32⟩
  | 28 => ⟨S512x512, .i32⟩
  | 29 => ⟨S512x512, .i1⟩
  | 30 => ⟨S_, .i32⟩
  | 31 => ⟨S512x512, .i32⟩
  | 32 => ⟨S512x512, .i32⟩
  | 33 => ⟨S512x512, .i32⟩
  | 34 => ⟨S512x512x1, .i32⟩
  | 35 => ⟨S512x512x1, .i32⟩
  | 36 => ⟨S512x512x1, .i32⟩
  | 37 => ⟨S512x512x3, .i32⟩
  | 38 => ⟨S256x512x512, .f32⟩
  | 39 => ⟨S_, .i32⟩
  | 40 => ⟨S512x512, .i32⟩
  | 41 => ⟨S512x512, .i32⟩
  | 42 => ⟨S_, .i32⟩
  | 43 => ⟨S512x512, .i32⟩
  | 44 => ⟨S512x512, .i32⟩
  | 45 => ⟨S_, .i32⟩
  | 46 => ⟨S_, .i32⟩
  | 47 => ⟨S_, .i32⟩
  | 48 => ⟨S512x512, .i32⟩
  | 49 => ⟨S512x512, .i32⟩
  | 50 => ⟨S_, .i32⟩
  | 51 => ⟨S512x512, .i32⟩
  | 52 => ⟨S512x512, .i32⟩
  | 53 => ⟨S_, .i32⟩
  | 54 => ⟨S512x512, .i32⟩
  | 55 => ⟨S512x512, .i1⟩
  | 56 => ⟨S_, .i32⟩
  | 57 => ⟨S512x512, .i32⟩
  | 58 => ⟨S512x512, .i32⟩
  | 59 => ⟨S512x512, .i32⟩
  | 60 => ⟨S_, .i32⟩
  | 61 => ⟨S512x512, .i32⟩
  | 62 => ⟨S512x512, .i1⟩
  | 63 => ⟨S_, .i32⟩
  | 64 => ⟨S512x512, .i32⟩
  | 65 => ⟨S512x512, .i32⟩
  | 66 => ⟨S512x512, .i32⟩
  | 67 => ⟨S_, .i32⟩
  | 68 => ⟨S512x512, .i32⟩
  | 69 => ⟨S512x512, .i1⟩
  | 70 => ⟨S_, .i32⟩
  | 71 => ⟨S512x512, .i32⟩
  | 72 => ⟨S512x512, .i32⟩
  | 73 => ⟨S512x512, .i32⟩
  | 74 => ⟨S512x512x1, .i32⟩
  | 75 => ⟨S512x512x1, .i32⟩
  | 76 => ⟨S512x512x1, .i32⟩
  | 77 => ⟨S512x512x3, .i32⟩
  | 78 => ⟨S256x512x512, .f32⟩
  | 79 => ⟨S_, .i32⟩
  | 80 => ⟨S512x512, .i32⟩
  | 81 => ⟨S512x512, .i32⟩
  | 82 => ⟨S_, .i32⟩
  | 83 => ⟨S512x512, .i32⟩
  | 84 => ⟨S512x512, .i32⟩
  | 85 => ⟨S_, .i32⟩
  | 86 => ⟨S_, .i32⟩
  | 87 => ⟨S_, .i32⟩
  | 88 => ⟨S512x512, .i32⟩
  | 89 => ⟨S512x512, .i32⟩
  | 90 => ⟨S_, .i32⟩
  | 91 => ⟨S512x512, .i32⟩
  | 92 => ⟨S512x512, .i32⟩
  | 93 => ⟨S_, .i32⟩
  | 94 => ⟨S512x512, .i32⟩
  | 95 => ⟨S512x512, .i1⟩
  | 96 => ⟨S_, .i32⟩
  | 97 => ⟨S512x512, .i32⟩
  | 98 => ⟨S512x512, .i32⟩
  | 99 => ⟨S512x512, .i32⟩
  | 100 => ⟨S_, .i32⟩
  | 101 => ⟨S512x512, .i32⟩
  | 102 => ⟨S512x512, .i1⟩
  | 103 => ⟨S_, .i32⟩
  | 104 => ⟨S512x512, .i32⟩
  | 105 => ⟨S512x512, .i32⟩
  | 106 => ⟨S512x512, .i32⟩
  | 107 => ⟨S_, .i32⟩
  | 108 => ⟨S512x512, .i32⟩
  | 109 => ⟨S512x512, .i1⟩
  | 110 => ⟨S_, .i32⟩
  | 111 => ⟨S512x512, .i32⟩
  | 112 => ⟨S512x512, .i32⟩
  | 113 => ⟨S512x512, .i32⟩
  | 114 => ⟨S512x512x1, .i32⟩
  | 115 => ⟨S512x512x1, .i32⟩
  | 116 => ⟨S512x512x1, .i32⟩
  | 117 => ⟨S512x512x3, .i32⟩
  | 118 => ⟨S256x512x512, .f32⟩
  | 119 => ⟨S_, .i32⟩
  | 120 => ⟨S512x512, .i32⟩
  | 121 => ⟨S512x512, .i32⟩
  | 122 => ⟨S_, .i32⟩
  | 123 => ⟨S512x512, .i32⟩
  | 124 => ⟨S512x512, .i32⟩
  | 125 => ⟨S_, .i32⟩
  | 126 => ⟨S_, .i32⟩
  | 127 => ⟨S_, .i32⟩
  | _ => ⟨S1x512x512, .f32⟩

abbrev hbmTy0_5 (i : Nat) : BufTy := match i % 128 with
  | 0 => ⟨S512x512, .i32⟩
  | 1 => ⟨S512x512, .i32⟩
  | 2 => ⟨S_, .i32⟩
  | 3 => ⟨S512x512, .i32⟩
  | 4 => ⟨S512x512, .i32⟩
  | 5 => ⟨S_, .i32⟩
  | 6 => ⟨S512x512, .i32⟩
  | 7 => ⟨S512x512, .i1⟩
  | 8 => ⟨S_, .i32⟩
  | 9 => ⟨S512x512, .i32⟩
  | 10 => ⟨S512x512, .i32⟩
  | 11 => ⟨S512x512, .i32⟩
  | 12 => ⟨S_, .i32⟩
  | 13 => ⟨S512x512, .i32⟩
  | 14 => ⟨S512x512, .i1⟩
  | 15 => ⟨S_, .i32⟩
  | 16 => ⟨S512x512, .i32⟩
  | 17 => ⟨S512x512, .i32⟩
  | 18 => ⟨S512x512, .i32⟩
  | 19 => ⟨S_, .i32⟩
  | 20 => ⟨S512x512, .i32⟩
  | 21 => ⟨S512x512, .i1⟩
  | 22 => ⟨S_, .i32⟩
  | 23 => ⟨S512x512, .i32⟩
  | 24 => ⟨S512x512, .i32⟩
  | 25 => ⟨S512x512, .i32⟩
  | 26 => ⟨S512x512x1, .i32⟩
  | 27 => ⟨S512x512x1, .i32⟩
  | 28 => ⟨S512x512x1, .i32⟩
  | 29 => ⟨S512x512x3, .i32⟩
  | 30 => ⟨S256x512x512, .f32⟩
  | 31 => ⟨S_, .i32⟩
  | 32 => ⟨S512x512, .i32⟩
  | 33 => ⟨S512x512, .i32⟩
  | 34 => ⟨S_, .i32⟩
  | 35 => ⟨S512x512, .i32⟩
  | 36 => ⟨S512x512, .i32⟩
  | 37 => ⟨S_, .i32⟩
  | 38 => ⟨S_, .i32⟩
  | 39 => ⟨S_, .i32⟩
  | 40 => ⟨S512x512, .i32⟩
  | 41 => ⟨S512x512, .i32⟩
  | 42 => ⟨S_, .i32⟩
  | 43 => ⟨S512x512, .i32⟩
  | 44 => ⟨S512x512, .i32⟩
  | 45 => ⟨S_, .i32⟩
  | 46 => ⟨S512x512, .i32⟩
  | 47 => ⟨S512x512, .i1⟩
  | 48 => ⟨S_, .i32⟩
  | 49 => ⟨S512x512, .i32⟩
  | 50 => ⟨S512x512, .i32⟩
  | 51 => ⟨S512x512, .i32⟩
  | 52 => ⟨S_, .i32⟩
  | 53 => ⟨S512x512, .i32⟩
  | 54 => ⟨S512x512, .i1⟩
  | 55 => ⟨S_, .i32⟩
  | 56 => ⟨S512x512, .i32⟩
  | 57 => ⟨S512x512, .i32⟩
  | 58 => ⟨S512x512, .i32⟩
  | 59 => ⟨S_, .i32⟩
  | 60 => ⟨S512x512, .i32⟩
  | 61 => ⟨S512x512, .i1⟩
  | 62 => ⟨S_, .i32⟩
  | 63 => ⟨S512x512, .i32⟩
  | 64 => ⟨S512x512, .i32⟩
  | 65 => ⟨S512x512, .i32⟩
  | 66 => ⟨S512x512x1, .i32⟩
  | 67 => ⟨S512x512x1, .i32⟩
  | 68 => ⟨S512x512x1, .i32⟩
  | 69 => ⟨S512x512x3, .i32⟩
  | 70 => ⟨S256x512x512, .f32⟩
  | _ => ⟨S1x512x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1x512x512, .f32⟩

abbrev bufTy : (tb : Table) → Fin (tcTables nBuf tb) → BufTy
  | .hbm, ⟨i, _⟩ => hbmTy i
  | _, _ => ⟨S1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v4 : Ref sig .tc := ⟨.hbm, 15, rfl⟩
abbrev main_v5 : Ref sig .tc := ⟨.hbm, 16, rfl⟩
abbrev main_call1_c : Ref sig .tc := ⟨.hbm, 17, rfl⟩
abbrev main_call1_v0 : Ref sig .tc := ⟨.hbm, 18, rfl⟩
abbrev main_call1_v1 : Ref sig .tc := ⟨.hbm, 19, rfl⟩
abbrev main_call1_c_0 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_c_1 : Ref sig .tc := ⟨.hbm, 25, rfl⟩
abbrev main_call1_c_2 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_c_3 : Ref sig .tc := ⟨.hbm, 33, rfl⟩
abbrev main_call1_v12 : Ref sig .tc := ⟨.hbm, 34, rfl⟩
abbrev main_call1_v13 : Ref sig .tc := ⟨.hbm, 35, rfl⟩
abbrev main_call1_cst : Ref sig .tc := ⟨.hbm, 36, rfl⟩
abbrev main_call1_v14 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_1 : Ref sig .tc := ⟨.hbm, 43, rfl⟩
abbrev main_v11 : Ref sig .tc := ⟨.hbm, 44, rfl⟩
abbrev main_c_2 : Ref sig .tc := ⟨.hbm, 45, rfl⟩
abbrev main_v12 : Ref sig .tc := ⟨.hbm, 46, rfl⟩
abbrev main_v13 : Ref sig .tc := ⟨.hbm, 47, rfl⟩
abbrev main_c_3 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_c_4 : Ref sig .tc := ⟨.hbm, 52, rfl⟩
abbrev main_v17 : Ref sig .tc := ⟨.hbm, 53, rfl⟩
abbrev main_v18 : Ref sig .tc := ⟨.hbm, 54, rfl⟩
abbrev main_c_5 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_c_6 : Ref sig .tc := ⟨.hbm, 59, rfl⟩
abbrev main_v22 : Ref sig .tc := ⟨.hbm, 60, rfl⟩
abbrev main_v23 : Ref sig .tc := ⟨.hbm, 61, rfl⟩
abbrev main_c_7 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_c_8 : Ref sig .tc := ⟨.hbm, 71, rfl⟩
abbrev main_v32 : Ref sig .tc := ⟨.hbm, 72, rfl⟩
abbrev main_v33 : Ref sig .tc := ⟨.hbm, 73, rfl⟩
abbrev main_c_9 : Ref sig .tc := ⟨.hbm, 74, rfl⟩
abbrev main_v34 : Ref sig .tc := ⟨.hbm, 75, rfl⟩
abbrev main_v35 : Ref sig .tc := ⟨.hbm, 76, rfl⟩
abbrev main_c_10 : Ref sig .tc := ⟨.hbm, 77, rfl⟩
abbrev main_c_11 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_v36 : Ref sig .tc := ⟨.hbm, 84, rfl⟩
abbrev main_c_12 : Ref sig .tc := ⟨.hbm, 85, rfl⟩
abbrev main_v37 : Ref sig .tc := ⟨.hbm, 86, rfl⟩
abbrev main_v38 : Ref sig .tc := ⟨.hbm, 87, rfl⟩
abbrev main_c_13 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_c_14 : Ref sig .tc := ⟨.hbm, 92, rfl⟩
abbrev main_v42 : Ref sig .tc := ⟨.hbm, 93, rfl⟩
abbrev main_v43 : Ref sig .tc := ⟨.hbm, 94, rfl⟩
abbrev main_c_15 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_c_16 : Ref sig .tc := ⟨.hbm, 99, rfl⟩
abbrev main_v47 : Ref sig .tc := ⟨.hbm, 100, rfl⟩
abbrev main_v48 : Ref sig .tc := ⟨.hbm, 101, rfl⟩
abbrev main_c_17 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_c_18 : Ref sig .tc := ⟨.hbm, 111, rfl⟩
abbrev main_v57 : Ref sig .tc := ⟨.hbm, 112, rfl⟩
abbrev main_v58 : Ref sig .tc := ⟨.hbm, 113, rfl⟩
abbrev main_c_19 : Ref sig .tc := ⟨.hbm, 114, rfl⟩
abbrev main_v59 : Ref sig .tc := ⟨.hbm, 115, rfl⟩
abbrev main_v60 : Ref sig .tc := ⟨.hbm, 116, rfl⟩
abbrev main_c_20 : Ref sig .tc := ⟨.hbm, 117, rfl⟩
abbrev main_c_21 : Ref sig .tc := ⟨.hbm, 118, rfl⟩
abbrev main_call3_v0 : Ref sig .tc := ⟨.hbm, 119, rfl⟩
abbrev main_call3_v1 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_v61 : Ref sig .tc := ⟨.hbm, 124, rfl⟩
abbrev main_c_22 : Ref sig .tc := ⟨.hbm, 125, rfl⟩
abbrev main_v62 : Ref sig .tc := ⟨.hbm, 126, rfl⟩
abbrev main_v63 : Ref sig .tc := ⟨.hbm, 127, rfl⟩
abbrev main_c_23 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_c_24 : Ref sig .tc := ⟨.hbm, 132, rfl⟩
abbrev main_v67 : Ref sig .tc := ⟨.hbm, 133, rfl⟩
abbrev main_v68 : Ref sig .tc := ⟨.hbm, 134, rfl⟩
abbrev main_c_25 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_c_26 : Ref sig .tc := ⟨.hbm, 139, rfl⟩
abbrev main_v72 : Ref sig .tc := ⟨.hbm, 140, rfl⟩
abbrev main_v73 : Ref sig .tc := ⟨.hbm, 141, rfl⟩
abbrev main_c_27 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_c_28 : Ref sig .tc := ⟨.hbm, 151, rfl⟩
abbrev main_v82 : Ref sig .tc := ⟨.hbm, 152, rfl⟩
abbrev main_v83 : Ref sig .tc := ⟨.hbm, 153, rfl⟩
abbrev main_c_29 : Ref sig .tc := ⟨.hbm, 154, rfl⟩
abbrev main_v84 : Ref sig .tc := ⟨.hbm, 155, rfl⟩
abbrev main_v85 : Ref sig .tc := ⟨.hbm, 156, rfl⟩
abbrev main_c_30 : Ref sig .tc := ⟨.hbm, 157, rfl⟩
abbrev main_c_31 : Ref sig .tc := ⟨.hbm, 158, rfl⟩
abbrev main_call4_v0 : Ref sig .tc := ⟨.hbm, 159, rfl⟩
abbrev main_call4_v1 : Ref sig .tc := ⟨.hbm, 160, rfl⟩
abbrev main_call4_v2 : Ref sig .tc := ⟨.hbm, 161, rfl⟩
abbrev main_call4_v3 : Ref sig .tc := ⟨.hbm, 162, rfl⟩
abbrev main_call4_v4 : Ref sig .tc := ⟨.hbm, 163, rfl⟩
abbrev main_v86 : Ref sig .tc := ⟨.hbm, 164, rfl⟩
abbrev main_c_32 : Ref sig .tc := ⟨.hbm, 165, rfl⟩
abbrev main_v87 : Ref sig .tc := ⟨.hbm, 166, rfl⟩
abbrev main_v88 : Ref sig .tc := ⟨.hbm, 167, rfl⟩
abbrev main_c_33 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_c_34 : Ref sig .tc := ⟨.hbm, 172, rfl⟩
abbrev main_v92 : Ref sig .tc := ⟨.hbm, 173, rfl⟩
abbrev main_v93 : Ref sig .tc := ⟨.hbm, 174, rfl⟩
abbrev main_c_35 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_c_36 : Ref sig .tc := ⟨.hbm, 179, rfl⟩
abbrev main_v97 : Ref sig .tc := ⟨.hbm, 180, rfl⟩
abbrev main_v98 : Ref sig .tc := ⟨.hbm, 181, rfl⟩
abbrev main_c_37 : Ref sig .tc := ⟨.hbm, 182, rfl⟩
abbrev main_v99 : Ref sig .tc := ⟨.hbm, 183, rfl⟩
abbrev main_v100 : Ref sig .tc := ⟨.hbm, 184, rfl⟩
abbrev main_v101 : Ref sig .tc := ⟨.hbm, 185, rfl⟩
abbrev main_v102 : Ref sig .tc := ⟨.hbm, 186, rfl⟩
abbrev main_v103 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_c_38 : Ref sig .tc := ⟨.hbm, 191, rfl⟩
abbrev main_v107 : Ref sig .tc := ⟨.hbm, 192, rfl⟩
abbrev main_v108 : Ref sig .tc := ⟨.hbm, 193, rfl⟩
abbrev main_c_39 : Ref sig .tc := ⟨.hbm, 194, rfl⟩
abbrev main_v109 : Ref sig .tc := ⟨.hbm, 195, rfl⟩
abbrev main_v110 : Ref sig .tc := ⟨.hbm, 196, rfl⟩
abbrev main_c_40 : Ref sig .tc := ⟨.hbm, 197, rfl⟩
abbrev main_c_41 : Ref sig .tc := ⟨.hbm, 198, rfl⟩
abbrev main_call5_v0 : Ref sig .tc := ⟨.hbm, 199, rfl⟩
abbrev main_call5_v1 : Ref sig .tc := ⟨.hbm, 200, rfl⟩
abbrev main_call5_v2 : Ref sig .tc := ⟨.hbm, 201, rfl⟩
abbrev main_call5_v3 : Ref sig .tc := ⟨.hbm, 202, rfl⟩
abbrev main_call5_v4 : Ref sig .tc := ⟨.hbm, 203, rfl⟩
abbrev main_v111 : Ref sig .tc := ⟨.hbm, 204, rfl⟩
abbrev main_c_42 : Ref sig .tc := ⟨.hbm, 205, rfl⟩
abbrev main_v112 : Ref sig .tc := ⟨.hbm, 206, rfl⟩
abbrev main_v113 : Ref sig .tc := ⟨.hbm, 207, rfl⟩
abbrev main_c_43 : Ref sig .tc := ⟨.hbm, 208, rfl⟩
abbrev main_v114 : Ref sig .tc := ⟨.hbm, 209, rfl⟩
abbrev main_v115 : Ref sig .tc := ⟨.hbm, 210, rfl⟩
abbrev main_v116 : Ref sig .tc := ⟨.hbm, 211, rfl⟩
abbrev main_c_44 : Ref sig .tc := ⟨.hbm, 212, rfl⟩
abbrev main_v117 : Ref sig .tc := ⟨.hbm, 213, rfl⟩
abbrev main_v118 : Ref sig .tc := ⟨.hbm, 214, rfl⟩
abbrev main_c_45 : Ref sig .tc := ⟨.hbm, 215, rfl⟩
abbrev main_v119 : Ref sig .tc := ⟨.hbm, 216, rfl⟩
abbrev main_v120 : Ref sig .tc := ⟨.hbm, 217, rfl⟩
abbrev main_v121 : Ref sig .tc := ⟨.hbm, 218, rfl⟩
abbrev main_c_46 : Ref sig .tc := ⟨.hbm, 219, rfl⟩
abbrev main_v122 : Ref sig .tc := ⟨.hbm, 220, rfl⟩
abbrev main_v123 : Ref sig .tc := ⟨.hbm, 221, rfl⟩
abbrev main_c_47 : Ref sig .tc := ⟨.hbm, 222, rfl⟩
abbrev main_v124 : Ref sig .tc := ⟨.hbm, 223, rfl⟩
abbrev main_v125 : Ref sig .tc := ⟨.hbm, 224, rfl⟩
abbrev main_v126 : Ref sig .tc := ⟨.hbm, 225, rfl⟩
abbrev main_v127 : Ref sig .tc := ⟨.hbm, 226, rfl⟩
abbrev main_v128 : Ref sig .tc := ⟨.hbm, 227, rfl⟩
abbrev main_v129 : Ref sig .tc := ⟨.hbm, 228, rfl⟩
abbrev main_v130 : Ref sig .tc := ⟨.hbm, 229, rfl⟩
abbrev main_v131 : Ref sig .tc := ⟨.hbm, 230, rfl⟩
abbrev main_c_48 : Ref sig .tc := ⟨.hbm, 231, rfl⟩
abbrev main_v132 : Ref sig .tc := ⟨.hbm, 232, rfl⟩
abbrev main_v133 : Ref sig .tc := ⟨.hbm, 233, rfl⟩
abbrev main_c_49 : Ref sig .tc := ⟨.hbm, 234, rfl⟩
abbrev main_v134 : Ref sig .tc := ⟨.hbm, 235, rfl⟩
abbrev main_v135 : Ref sig .tc := ⟨.hbm, 236, rfl⟩
abbrev main_c_50 : Ref sig .tc := ⟨.hbm, 237, rfl⟩
abbrev main_c_51 : Ref sig .tc := ⟨.hbm, 238, rfl⟩
abbrev main_call6_v0 : Ref sig .tc := ⟨.hbm, 239, rfl⟩
abbrev main_call6_v1 : Ref sig .tc := ⟨.hbm, 240, rfl⟩
abbrev main_call6_v2 : Ref sig .tc := ⟨.hbm, 241, rfl⟩
abbrev main_call6_v3 : Ref sig .tc := ⟨.hbm, 242, rfl⟩
abbrev main_call6_v4 : Ref sig .tc := ⟨.hbm, 243, rfl⟩
abbrev main_v136 : Ref sig .tc := ⟨.hbm, 244, rfl⟩
abbrev main_c_52 : Ref sig .tc := ⟨.hbm, 245, rfl⟩
abbrev main_v137 : Ref sig .tc := ⟨.hbm, 246, rfl⟩
abbrev main_v138 : Ref sig .tc := ⟨.hbm, 247, rfl⟩
abbrev main_c_53 : Ref sig .tc := ⟨.hbm, 248, rfl⟩
abbrev main_v139 : Ref sig .tc := ⟨.hbm, 249, rfl⟩
abbrev main_v140 : Ref sig .tc := ⟨.hbm, 250, rfl⟩
abbrev main_v141 : Ref sig .tc := ⟨.hbm, 251, rfl⟩
abbrev main_c_54 : Ref sig .tc := ⟨.hbm, 252, rfl⟩
abbrev main_v142 : Ref sig .tc := ⟨.hbm, 253, rfl⟩
abbrev main_v143 : Ref sig .tc := ⟨.hbm, 254, rfl⟩
abbrev main_c_55 : Ref sig .tc := ⟨.hbm, 255, rfl⟩
abbrev main_v144 : Ref sig .tc := ⟨.hbm, 256, rfl⟩
abbrev main_v145 : Ref sig .tc := ⟨.hbm, 257, rfl⟩
abbrev main_v146 : Ref sig .tc := ⟨.hbm, 258, rfl⟩
abbrev main_c_56 : Ref sig .tc := ⟨.hbm, 259, rfl⟩
abbrev main_v147 : Ref sig .tc := ⟨.hbm, 260, rfl⟩
abbrev main_v148 : Ref sig .tc := ⟨.hbm, 261, rfl⟩
abbrev main_c_57 : Ref sig .tc := ⟨.hbm, 262, rfl⟩
abbrev main_v149 : Ref sig .tc := ⟨.hbm, 263, rfl⟩
abbrev main_v150 : Ref sig .tc := ⟨.hbm, 264, rfl⟩
abbrev main_v151 : Ref sig .tc := ⟨.hbm, 265, rfl⟩
abbrev main_v152 : Ref sig .tc := ⟨.hbm, 266, rfl⟩
abbrev main_v153 : Ref sig .tc := ⟨.hbm, 267, rfl⟩
abbrev main_v154 : Ref sig .tc := ⟨.hbm, 268, rfl⟩
abbrev main_v155 : Ref sig .tc := ⟨.hbm, 269, rfl⟩
abbrev main_v156 : Ref sig .tc := ⟨.hbm, 270, rfl⟩
abbrev main_c_58 : Ref sig .tc := ⟨.hbm, 271, rfl⟩
abbrev main_v157 : Ref sig .tc := ⟨.hbm, 272, rfl⟩
abbrev main_v158 : Ref sig .tc := ⟨.hbm, 273, rfl⟩
abbrev main_c_59 : Ref sig .tc := ⟨.hbm, 274, rfl⟩
abbrev main_v159 : Ref sig .tc := ⟨.hbm, 275, rfl⟩
abbrev main_v160 : Ref sig .tc := ⟨.hbm, 276, rfl⟩
abbrev main_c_60 : Ref sig .tc := ⟨.hbm, 277, rfl⟩
abbrev main_c_61 : Ref sig .tc := ⟨.hbm, 278, rfl⟩
abbrev main_call7_v0 : Ref sig .tc := ⟨.hbm, 279, rfl⟩
abbrev main_call7_v1 : Ref sig .tc := ⟨.hbm, 280, rfl⟩
abbrev main_call7_v2 : Ref sig .tc := ⟨.hbm, 281, rfl⟩
abbrev main_call7_v3 : Ref sig .tc := ⟨.hbm, 282, rfl⟩
abbrev main_call7_v4 : Ref sig .tc := ⟨.hbm, 283, rfl⟩
abbrev main_v161 : Ref sig .tc := ⟨.hbm, 284, rfl⟩
abbrev main_c_62 : Ref sig .tc := ⟨.hbm, 285, rfl⟩
abbrev main_v162 : Ref sig .tc := ⟨.hbm, 286, rfl⟩
abbrev main_v163 : Ref sig .tc := ⟨.hbm, 287, rfl⟩
abbrev main_c_63 : Ref sig .tc := ⟨.hbm, 288, rfl⟩
abbrev main_v164 : Ref sig .tc := ⟨.hbm, 289, rfl⟩
abbrev main_v165 : Ref sig .tc := ⟨.hbm, 290, rfl⟩
abbrev main_v166 : Ref sig .tc := ⟨.hbm, 291, rfl⟩
abbrev main_c_64 : Ref sig .tc := ⟨.hbm, 292, rfl⟩
abbrev main_v167 : Ref sig .tc := ⟨.hbm, 293, rfl⟩
abbrev main_v168 : Ref sig .tc := ⟨.hbm, 294, rfl⟩
abbrev main_c_65 : Ref sig .tc := ⟨.hbm, 295, rfl⟩
abbrev main_v169 : Ref sig .tc := ⟨.hbm, 296, rfl⟩
abbrev main_v170 : Ref sig .tc := ⟨.hbm, 297, rfl⟩
abbrev main_v171 : Ref sig .tc := ⟨.hbm, 298, rfl⟩
abbrev main_c_66 : Ref sig .tc := ⟨.hbm, 299, rfl⟩
abbrev main_v172 : Ref sig .tc := ⟨.hbm, 300, rfl⟩
abbrev main_v173 : Ref sig .tc := ⟨.hbm, 301, rfl⟩
abbrev main_c_67 : Ref sig .tc := ⟨.hbm, 302, rfl⟩
abbrev main_v174 : Ref sig .tc := ⟨.hbm, 303, rfl⟩
abbrev main_v175 : Ref sig .tc := ⟨.hbm, 304, rfl⟩
abbrev main_v176 : Ref sig .tc := ⟨.hbm, 305, rfl⟩
abbrev main_v177 : Ref sig .tc := ⟨.hbm, 306, rfl⟩
abbrev main_v178 : Ref sig .tc := ⟨.hbm, 307, rfl⟩
abbrev main_v179 : Ref sig .tc := ⟨.hbm, 308, rfl⟩
abbrev main_v180 : Ref sig .tc := ⟨.hbm, 309, rfl⟩
abbrev main_v181 : Ref sig .tc := ⟨.hbm, 310, rfl⟩
abbrev main_c_68 : Ref sig .tc := ⟨.hbm, 311, rfl⟩
abbrev main_v182 : Ref sig .tc := ⟨.hbm, 312, rfl⟩
abbrev main_v183 : Ref sig .tc := ⟨.hbm, 313, rfl⟩
abbrev main_c_69 : Ref sig .tc := ⟨.hbm, 314, rfl⟩
abbrev main_v184 : Ref sig .tc := ⟨.hbm, 315, rfl⟩
abbrev main_v185 : Ref sig .tc := ⟨.hbm, 316, rfl⟩
abbrev main_c_70 : Ref sig .tc := ⟨.hbm, 317, rfl⟩
abbrev main_c_71 : Ref sig .tc := ⟨.hbm, 318, rfl⟩
abbrev main_call8_v0 : Ref sig .tc := ⟨.hbm, 319, rfl⟩
abbrev main_call8_v1 : Ref sig .tc := ⟨.hbm, 320, rfl⟩
abbrev main_call8_v2 : Ref sig .tc := ⟨.hbm, 321, rfl⟩
abbrev main_call8_v3 : Ref sig .tc := ⟨.hbm, 322, rfl⟩
abbrev main_call8_v4 : Ref sig .tc := ⟨.hbm, 323, rfl⟩
abbrev main_v186 : Ref sig .tc := ⟨.hbm, 324, rfl⟩
abbrev main_c_72 : Ref sig .tc := ⟨.hbm, 325, rfl⟩
abbrev main_v187 : Ref sig .tc := ⟨.hbm, 326, rfl⟩
abbrev main_v188 : Ref sig .tc := ⟨.hbm, 327, rfl⟩
abbrev main_c_73 : Ref sig .tc := ⟨.hbm, 328, rfl⟩
abbrev main_v189 : Ref sig .tc := ⟨.hbm, 329, rfl⟩
abbrev main_v190 : Ref sig .tc := ⟨.hbm, 330, rfl⟩
abbrev main_v191 : Ref sig .tc := ⟨.hbm, 331, rfl⟩
abbrev main_c_74 : Ref sig .tc := ⟨.hbm, 332, rfl⟩
abbrev main_v192 : Ref sig .tc := ⟨.hbm, 333, rfl⟩
abbrev main_v193 : Ref sig .tc := ⟨.hbm, 334, rfl⟩
abbrev main_c_75 : Ref sig .tc := ⟨.hbm, 335, rfl⟩
abbrev main_v194 : Ref sig .tc := ⟨.hbm, 336, rfl⟩
abbrev main_v195 : Ref sig .tc := ⟨.hbm, 337, rfl⟩
abbrev main_v196 : Ref sig .tc := ⟨.hbm, 338, rfl⟩
abbrev main_c_76 : Ref sig .tc := ⟨.hbm, 339, rfl⟩
abbrev main_v197 : Ref sig .tc := ⟨.hbm, 340, rfl⟩
abbrev main_v198 : Ref sig .tc := ⟨.hbm, 341, rfl⟩
abbrev main_c_77 : Ref sig .tc := ⟨.hbm, 342, rfl⟩
abbrev main_v199 : Ref sig .tc := ⟨.hbm, 343, rfl⟩
abbrev main_v200 : Ref sig .tc := ⟨.hbm, 344, rfl⟩
abbrev main_v201 : Ref sig .tc := ⟨.hbm, 345, rfl⟩
abbrev main_v202 : Ref sig .tc := ⟨.hbm, 346, rfl⟩
abbrev main_v203 : Ref sig .tc := ⟨.hbm, 347, rfl⟩
abbrev main_v204 : Ref sig .tc := ⟨.hbm, 348, rfl⟩
abbrev main_v205 : Ref sig .tc := ⟨.hbm, 349, rfl⟩
abbrev main_v206 : Ref sig .tc := ⟨.hbm, 350, rfl⟩
abbrev main_c_78 : Ref sig .tc := ⟨.hbm, 351, rfl⟩
abbrev main_v207 : Ref sig .tc := ⟨.hbm, 352, rfl⟩
abbrev main_v208 : Ref sig .tc := ⟨.hbm, 353, rfl⟩
abbrev main_c_79 : Ref sig .tc := ⟨.hbm, 354, rfl⟩
abbrev main_v209 : Ref sig .tc := ⟨.hbm, 355, rfl⟩
abbrev main_v210 : Ref sig .tc := ⟨.hbm, 356, rfl⟩
abbrev main_c_80 : Ref sig .tc := ⟨.hbm, 357, rfl⟩
abbrev main_c_81 : Ref sig .tc := ⟨.hbm, 358, rfl⟩
abbrev main_call9_v0 : Ref sig .tc := ⟨.hbm, 359, rfl⟩
abbrev main_call9_v1 : Ref sig .tc := ⟨.hbm, 360, rfl⟩
abbrev main_call9_v2 : Ref sig .tc := ⟨.hbm, 361, rfl⟩
abbrev main_call9_v3 : Ref sig .tc := ⟨.hbm, 362, rfl⟩
abbrev main_call9_v4 : Ref sig .tc := ⟨.hbm, 363, rfl⟩
abbrev main_v211 : Ref sig .tc := ⟨.hbm, 364, rfl⟩
abbrev main_c_82 : Ref sig .tc := ⟨.hbm, 365, rfl⟩
abbrev main_v212 : Ref sig .tc := ⟨.hbm, 366, rfl⟩
abbrev main_v213 : Ref sig .tc := ⟨.hbm, 367, rfl⟩
abbrev main_c_83 : Ref sig .tc := ⟨.hbm, 368, rfl⟩
abbrev main_v214 : Ref sig .tc := ⟨.hbm, 369, rfl⟩
abbrev main_v215 : Ref sig .tc := ⟨.hbm, 370, rfl⟩
abbrev main_v216 : Ref sig .tc := ⟨.hbm, 371, rfl⟩
abbrev main_c_84 : Ref sig .tc := ⟨.hbm, 372, rfl⟩
abbrev main_v217 : Ref sig .tc := ⟨.hbm, 373, rfl⟩
abbrev main_v218 : Ref sig .tc := ⟨.hbm, 374, rfl⟩
abbrev main_c_85 : Ref sig .tc := ⟨.hbm, 375, rfl⟩
abbrev main_v219 : Ref sig .tc := ⟨.hbm, 376, rfl⟩
abbrev main_v220 : Ref sig .tc := ⟨.hbm, 377, rfl⟩
abbrev main_v221 : Ref sig .tc := ⟨.hbm, 378, rfl⟩
abbrev main_c_86 : Ref sig .tc := ⟨.hbm, 379, rfl⟩
abbrev main_v222 : Ref sig .tc := ⟨.hbm, 380, rfl⟩
abbrev main_v223 : Ref sig .tc := ⟨.hbm, 381, rfl⟩
abbrev main_c_87 : Ref sig .tc := ⟨.hbm, 382, rfl⟩
abbrev main_v224 : Ref sig .tc := ⟨.hbm, 383, rfl⟩
abbrev main_v225 : Ref sig .tc := ⟨.hbm, 384, rfl⟩
abbrev main_v226 : Ref sig .tc := ⟨.hbm, 385, rfl⟩
abbrev main_v227 : Ref sig .tc := ⟨.hbm, 386, rfl⟩
abbrev main_v228 : Ref sig .tc := ⟨.hbm, 387, rfl⟩
abbrev main_v229 : Ref sig .tc := ⟨.hbm, 388, rfl⟩
abbrev main_v230 : Ref sig .tc := ⟨.hbm, 389, rfl⟩
abbrev main_v231 : Ref sig .tc := ⟨.hbm, 390, rfl⟩
abbrev main_c_88 : Ref sig .tc := ⟨.hbm, 391, rfl⟩
abbrev main_v232 : Ref sig .tc := ⟨.hbm, 392, rfl⟩
abbrev main_v233 : Ref sig .tc := ⟨.hbm, 393, rfl⟩
abbrev main_c_89 : Ref sig .tc := ⟨.hbm, 394, rfl⟩
abbrev main_v234 : Ref sig .tc := ⟨.hbm, 395, rfl⟩
abbrev main_v235 : Ref sig .tc := ⟨.hbm, 396, rfl⟩
abbrev main_c_90 : Ref sig .tc := ⟨.hbm, 397, rfl⟩
abbrev main_c_91 : Ref sig .tc := ⟨.hbm, 398, rfl⟩
abbrev main_call10_v0 : Ref sig .tc := ⟨.hbm, 399, rfl⟩
abbrev main_call10_v1 : Ref sig .tc := ⟨.hbm, 400, rfl⟩
abbrev main_call10_v2 : Ref sig .tc := ⟨.hbm, 401, rfl⟩
abbrev main_call10_v3 : Ref sig .tc := ⟨.hbm, 402, rfl⟩
abbrev main_call10_v4 : Ref sig .tc := ⟨.hbm, 403, rfl⟩
abbrev main_v236 : Ref sig .tc := ⟨.hbm, 404, rfl⟩
abbrev main_c_92 : Ref sig .tc := ⟨.hbm, 405, rfl⟩
abbrev main_v237 : Ref sig .tc := ⟨.hbm, 406, rfl⟩
abbrev main_v238 : Ref sig .tc := ⟨.hbm, 407, rfl⟩
abbrev main_c_93 : Ref sig .tc := ⟨.hbm, 408, rfl⟩
abbrev main_v239 : Ref sig .tc := ⟨.hbm, 409, rfl⟩
abbrev main_v240 : Ref sig .tc := ⟨.hbm, 410, rfl⟩
abbrev main_v241 : Ref sig .tc := ⟨.hbm, 411, rfl⟩
abbrev main_c_94 : Ref sig .tc := ⟨.hbm, 412, rfl⟩
abbrev main_v242 : Ref sig .tc := ⟨.hbm, 413, rfl⟩
abbrev main_v243 : Ref sig .tc := ⟨.hbm, 414, rfl⟩
abbrev main_c_95 : Ref sig .tc := ⟨.hbm, 415, rfl⟩
abbrev main_v244 : Ref sig .tc := ⟨.hbm, 416, rfl⟩
abbrev main_v245 : Ref sig .tc := ⟨.hbm, 417, rfl⟩
abbrev main_v246 : Ref sig .tc := ⟨.hbm, 418, rfl⟩
abbrev main_c_96 : Ref sig .tc := ⟨.hbm, 419, rfl⟩
abbrev main_v247 : Ref sig .tc := ⟨.hbm, 420, rfl⟩
abbrev main_v248 : Ref sig .tc := ⟨.hbm, 421, rfl⟩
abbrev main_c_97 : Ref sig .tc := ⟨.hbm, 422, rfl⟩
abbrev main_v249 : Ref sig .tc := ⟨.hbm, 423, rfl⟩
abbrev main_v250 : Ref sig .tc := ⟨.hbm, 424, rfl⟩
abbrev main_v251 : Ref sig .tc := ⟨.hbm, 425, rfl⟩
abbrev main_v252 : Ref sig .tc := ⟨.hbm, 426, rfl⟩
abbrev main_v253 : Ref sig .tc := ⟨.hbm, 427, rfl⟩
abbrev main_v254 : Ref sig .tc := ⟨.hbm, 428, rfl⟩
abbrev main_v255 : Ref sig .tc := ⟨.hbm, 429, rfl⟩
abbrev main_v256 : Ref sig .tc := ⟨.hbm, 430, rfl⟩
abbrev main_c_98 : Ref sig .tc := ⟨.hbm, 431, rfl⟩
abbrev main_v257 : Ref sig .tc := ⟨.hbm, 432, rfl⟩
abbrev main_v258 : Ref sig .tc := ⟨.hbm, 433, rfl⟩
abbrev main_c_99 : Ref sig .tc := ⟨.hbm, 434, rfl⟩
abbrev main_v259 : Ref sig .tc := ⟨.hbm, 435, rfl⟩
abbrev main_v260 : Ref sig .tc := ⟨.hbm, 436, rfl⟩
abbrev main_c_100 : Ref sig .tc := ⟨.hbm, 437, rfl⟩
abbrev main_c_101 : Ref sig .tc := ⟨.hbm, 438, rfl⟩
abbrev main_call11_v0 : Ref sig .tc := ⟨.hbm, 439, rfl⟩
abbrev main_call11_v1 : Ref sig .tc := ⟨.hbm, 440, rfl⟩
abbrev main_call11_v2 : Ref sig .tc := ⟨.hbm, 441, rfl⟩
abbrev main_call11_v3 : Ref sig .tc := ⟨.hbm, 442, rfl⟩
abbrev main_call11_v4 : Ref sig .tc := ⟨.hbm, 443, rfl⟩
abbrev main_v261 : Ref sig .tc := ⟨.hbm, 444, rfl⟩
abbrev main_c_102 : Ref sig .tc := ⟨.hbm, 445, rfl⟩
abbrev main_v262 : Ref sig .tc := ⟨.hbm, 446, rfl⟩
abbrev main_v263 : Ref sig .tc := ⟨.hbm, 447, rfl⟩
abbrev main_c_103 : Ref sig .tc := ⟨.hbm, 448, rfl⟩
abbrev main_v264 : Ref sig .tc := ⟨.hbm, 449, rfl⟩
abbrev main_v265 : Ref sig .tc := ⟨.hbm, 450, rfl⟩
abbrev main_v266 : Ref sig .tc := ⟨.hbm, 451, rfl⟩
abbrev main_c_104 : Ref sig .tc := ⟨.hbm, 452, rfl⟩
abbrev main_v267 : Ref sig .tc := ⟨.hbm, 453, rfl⟩
abbrev main_v268 : Ref sig .tc := ⟨.hbm, 454, rfl⟩
abbrev main_c_105 : Ref sig .tc := ⟨.hbm, 455, rfl⟩
abbrev main_v269 : Ref sig .tc := ⟨.hbm, 456, rfl⟩
abbrev main_v270 : Ref sig .tc := ⟨.hbm, 457, rfl⟩
abbrev main_v271 : Ref sig .tc := ⟨.hbm, 458, rfl⟩
abbrev main_c_106 : Ref sig .tc := ⟨.hbm, 459, rfl⟩
abbrev main_v272 : Ref sig .tc := ⟨.hbm, 460, rfl⟩
abbrev main_v273 : Ref sig .tc := ⟨.hbm, 461, rfl⟩
abbrev main_c_107 : Ref sig .tc := ⟨.hbm, 462, rfl⟩
abbrev main_v274 : Ref sig .tc := ⟨.hbm, 463, rfl⟩
abbrev main_v275 : Ref sig .tc := ⟨.hbm, 464, rfl⟩
abbrev main_v276 : Ref sig .tc := ⟨.hbm, 465, rfl⟩
abbrev main_v277 : Ref sig .tc := ⟨.hbm, 466, rfl⟩
abbrev main_v278 : Ref sig .tc := ⟨.hbm, 467, rfl⟩
abbrev main_v279 : Ref sig .tc := ⟨.hbm, 468, rfl⟩
abbrev main_v280 : Ref sig .tc := ⟨.hbm, 469, rfl⟩
abbrev main_v281 : Ref sig .tc := ⟨.hbm, 470, rfl⟩
abbrev main_c_108 : Ref sig .tc := ⟨.hbm, 471, rfl⟩
abbrev main_v282 : Ref sig .tc := ⟨.hbm, 472, rfl⟩
abbrev main_v283 : Ref sig .tc := ⟨.hbm, 473, rfl⟩
abbrev main_c_109 : Ref sig .tc := ⟨.hbm, 474, rfl⟩
abbrev main_v284 : Ref sig .tc := ⟨.hbm, 475, rfl⟩
abbrev main_v285 : Ref sig .tc := ⟨.hbm, 476, rfl⟩
abbrev main_c_110 : Ref sig .tc := ⟨.hbm, 477, rfl⟩
abbrev main_c_111 : Ref sig .tc := ⟨.hbm, 478, rfl⟩
abbrev main_call12_v0 : Ref sig .tc := ⟨.hbm, 479, rfl⟩
abbrev main_call12_v1 : Ref sig .tc := ⟨.hbm, 480, rfl⟩
abbrev main_call12_v2 : Ref sig .tc := ⟨.hbm, 481, rfl⟩
abbrev main_call12_v3 : Ref sig .tc := ⟨.hbm, 482, rfl⟩
abbrev main_call12_v4 : Ref sig .tc := ⟨.hbm, 483, rfl⟩
abbrev main_v286 : Ref sig .tc := ⟨.hbm, 484, rfl⟩
abbrev main_c_112 : Ref sig .tc := ⟨.hbm, 485, rfl⟩
abbrev main_v287 : Ref sig .tc := ⟨.hbm, 486, rfl⟩
abbrev main_v288 : Ref sig .tc := ⟨.hbm, 487, rfl⟩
abbrev main_c_113 : Ref sig .tc := ⟨.hbm, 488, rfl⟩
abbrev main_v289 : Ref sig .tc := ⟨.hbm, 489, rfl⟩
abbrev main_v290 : Ref sig .tc := ⟨.hbm, 490, rfl⟩
abbrev main_v291 : Ref sig .tc := ⟨.hbm, 491, rfl⟩
abbrev main_c_114 : Ref sig .tc := ⟨.hbm, 492, rfl⟩
abbrev main_v292 : Ref sig .tc := ⟨.hbm, 493, rfl⟩
abbrev main_v293 : Ref sig .tc := ⟨.hbm, 494, rfl⟩
abbrev main_c_115 : Ref sig .tc := ⟨.hbm, 495, rfl⟩
abbrev main_v294 : Ref sig .tc := ⟨.hbm, 496, rfl⟩
abbrev main_v295 : Ref sig .tc := ⟨.hbm, 497, rfl⟩
abbrev main_v296 : Ref sig .tc := ⟨.hbm, 498, rfl⟩
abbrev main_c_116 : Ref sig .tc := ⟨.hbm, 499, rfl⟩
abbrev main_v297 : Ref sig .tc := ⟨.hbm, 500, rfl⟩
abbrev main_v298 : Ref sig .tc := ⟨.hbm, 501, rfl⟩
abbrev main_c_117 : Ref sig .tc := ⟨.hbm, 502, rfl⟩
abbrev main_v299 : Ref sig .tc := ⟨.hbm, 503, rfl⟩
abbrev main_v300 : Ref sig .tc := ⟨.hbm, 504, rfl⟩
abbrev main_v301 : Ref sig .tc := ⟨.hbm, 505, rfl⟩
abbrev main_v302 : Ref sig .tc := ⟨.hbm, 506, rfl⟩
abbrev main_v303 : Ref sig .tc := ⟨.hbm, 507, rfl⟩
abbrev main_v304 : Ref sig .tc := ⟨.hbm, 508, rfl⟩
abbrev main_v305 : Ref sig .tc := ⟨.hbm, 509, rfl⟩
abbrev main_v306 : Ref sig .tc := ⟨.hbm, 510, rfl⟩
abbrev main_c_118 : Ref sig .tc := ⟨.hbm, 511, rfl⟩
abbrev main_v307 : Ref sig .tc := ⟨.hbm, 512, rfl⟩
abbrev main_v308 : Ref sig .tc := ⟨.hbm, 513, rfl⟩
abbrev main_c_119 : Ref sig .tc := ⟨.hbm, 514, rfl⟩
abbrev main_v309 : Ref sig .tc := ⟨.hbm, 515, rfl⟩
abbrev main_v310 : Ref sig .tc := ⟨.hbm, 516, rfl⟩
abbrev main_c_120 : Ref sig .tc := ⟨.hbm, 517, rfl⟩
abbrev main_c_121 : Ref sig .tc := ⟨.hbm, 518, rfl⟩
abbrev main_call13_v0 : Ref sig .tc := ⟨.hbm, 519, rfl⟩
abbrev main_call13_v1 : Ref sig .tc := ⟨.hbm, 520, rfl⟩
abbrev main_call13_v2 : Ref sig .tc := ⟨.hbm, 521, rfl⟩
abbrev main_call13_v3 : Ref sig .tc := ⟨.hbm, 522, rfl⟩
abbrev main_call13_v4 : Ref sig .tc := ⟨.hbm, 523, rfl⟩
abbrev main_v311 : Ref sig .tc := ⟨.hbm, 524, rfl⟩
abbrev main_c_122 : Ref sig .tc := ⟨.hbm, 525, rfl⟩
abbrev main_v312 : Ref sig .tc := ⟨.hbm, 526, rfl⟩
abbrev main_v313 : Ref sig .tc := ⟨.hbm, 527, rfl⟩
abbrev main_c_123 : Ref sig .tc := ⟨.hbm, 528, rfl⟩
abbrev main_v314 : Ref sig .tc := ⟨.hbm, 529, rfl⟩
abbrev main_v315 : Ref sig .tc := ⟨.hbm, 530, rfl⟩
abbrev main_v316 : Ref sig .tc := ⟨.hbm, 531, rfl⟩
abbrev main_c_124 : Ref sig .tc := ⟨.hbm, 532, rfl⟩
abbrev main_v317 : Ref sig .tc := ⟨.hbm, 533, rfl⟩
abbrev main_v318 : Ref sig .tc := ⟨.hbm, 534, rfl⟩
abbrev main_c_125 : Ref sig .tc := ⟨.hbm, 535, rfl⟩
abbrev main_v319 : Ref sig .tc := ⟨.hbm, 536, rfl⟩
abbrev main_v320 : Ref sig .tc := ⟨.hbm, 537, rfl⟩
abbrev main_v321 : Ref sig .tc := ⟨.hbm, 538, rfl⟩
abbrev main_c_126 : Ref sig .tc := ⟨.hbm, 539, rfl⟩
abbrev main_v322 : Ref sig .tc := ⟨.hbm, 540, rfl⟩
abbrev main_v323 : Ref sig .tc := ⟨.hbm, 541, rfl⟩
abbrev main_c_127 : Ref sig .tc := ⟨.hbm, 542, rfl⟩
abbrev main_v324 : Ref sig .tc := ⟨.hbm, 543, rfl⟩
abbrev main_v325 : Ref sig .tc := ⟨.hbm, 544, rfl⟩
abbrev main_v326 : Ref sig .tc := ⟨.hbm, 545, rfl⟩
abbrev main_v327 : Ref sig .tc := ⟨.hbm, 546, rfl⟩
abbrev main_v328 : Ref sig .tc := ⟨.hbm, 547, rfl⟩
abbrev main_v329 : Ref sig .tc := ⟨.hbm, 548, rfl⟩
abbrev main_v330 : Ref sig .tc := ⟨.hbm, 549, rfl⟩
abbrev main_v331 : Ref sig .tc := ⟨.hbm, 550, rfl⟩
abbrev main_c_128 : Ref sig .tc := ⟨.hbm, 551, rfl⟩
abbrev main_v332 : Ref sig .tc := ⟨.hbm, 552, rfl⟩
abbrev main_v333 : Ref sig .tc := ⟨.hbm, 553, rfl⟩
abbrev main_c_129 : Ref sig .tc := ⟨.hbm, 554, rfl⟩
abbrev main_v334 : Ref sig .tc := ⟨.hbm, 555, rfl⟩
abbrev main_v335 : Ref sig .tc := ⟨.hbm, 556, rfl⟩
abbrev main_c_130 : Ref sig .tc := ⟨.hbm, 557, rfl⟩
abbrev main_c_131 : Ref sig .tc := ⟨.hbm, 558, rfl⟩
abbrev main_call14_v0 : Ref sig .tc := ⟨.hbm, 559, rfl⟩
abbrev main_call14_v1 : Ref sig .tc := ⟨.hbm, 560, rfl⟩
abbrev main_call14_v2 : Ref sig .tc := ⟨.hbm, 561, rfl⟩
abbrev main_call14_v3 : Ref sig .tc := ⟨.hbm, 562, rfl⟩
abbrev main_call14_v4 : Ref sig .tc := ⟨.hbm, 563, rfl⟩
abbrev main_v336 : Ref sig .tc := ⟨.hbm, 564, rfl⟩
abbrev main_c_132 : Ref sig .tc := ⟨.hbm, 565, rfl⟩
abbrev main_v337 : Ref sig .tc := ⟨.hbm, 566, rfl⟩
abbrev main_v338 : Ref sig .tc := ⟨.hbm, 567, rfl⟩
abbrev main_c_133 : Ref sig .tc := ⟨.hbm, 568, rfl⟩
abbrev main_v339 : Ref sig .tc := ⟨.hbm, 569, rfl⟩
abbrev main_v340 : Ref sig .tc := ⟨.hbm, 570, rfl⟩
abbrev main_v341 : Ref sig .tc := ⟨.hbm, 571, rfl⟩
abbrev main_c_134 : Ref sig .tc := ⟨.hbm, 572, rfl⟩
abbrev main_v342 : Ref sig .tc := ⟨.hbm, 573, rfl⟩
abbrev main_v343 : Ref sig .tc := ⟨.hbm, 574, rfl⟩
abbrev main_c_135 : Ref sig .tc := ⟨.hbm, 575, rfl⟩
abbrev main_v344 : Ref sig .tc := ⟨.hbm, 576, rfl⟩
abbrev main_v345 : Ref sig .tc := ⟨.hbm, 577, rfl⟩
abbrev main_v346 : Ref sig .tc := ⟨.hbm, 578, rfl⟩
abbrev main_c_136 : Ref sig .tc := ⟨.hbm, 579, rfl⟩
abbrev main_v347 : Ref sig .tc := ⟨.hbm, 580, rfl⟩
abbrev main_v348 : Ref sig .tc := ⟨.hbm, 581, rfl⟩
abbrev main_c_137 : Ref sig .tc := ⟨.hbm, 582, rfl⟩
abbrev main_v349 : Ref sig .tc := ⟨.hbm, 583, rfl⟩
abbrev main_v350 : Ref sig .tc := ⟨.hbm, 584, rfl⟩
abbrev main_v351 : Ref sig .tc := ⟨.hbm, 585, rfl⟩
abbrev main_v352 : Ref sig .tc := ⟨.hbm, 586, rfl⟩
abbrev main_v353 : Ref sig .tc := ⟨.hbm, 587, rfl⟩
abbrev main_v354 : Ref sig .tc := ⟨.hbm, 588, rfl⟩
abbrev main_v355 : Ref sig .tc := ⟨.hbm, 589, rfl⟩
abbrev main_v356 : Ref sig .tc := ⟨.hbm, 590, rfl⟩
abbrev main_c_138 : Ref sig .tc := ⟨.hbm, 591, rfl⟩
abbrev main_v357 : Ref sig .tc := ⟨.hbm, 592, rfl⟩
abbrev main_v358 : Ref sig .tc := ⟨.hbm, 593, rfl⟩
abbrev main_c_139 : Ref sig .tc := ⟨.hbm, 594, rfl⟩
abbrev main_v359 : Ref sig .tc := ⟨.hbm, 595, rfl⟩
abbrev main_v360 : Ref sig .tc := ⟨.hbm, 596, rfl⟩
abbrev main_c_140 : Ref sig .tc := ⟨.hbm, 597, rfl⟩
abbrev main_c_141 : Ref sig .tc := ⟨.hbm, 598, rfl⟩
abbrev main_call15_v0 : Ref sig .tc := ⟨.hbm, 599, rfl⟩
abbrev main_call15_v1 : Ref sig .tc := ⟨.hbm, 600, rfl⟩
abbrev main_call15_v2 : Ref sig .tc := ⟨.hbm, 601, rfl⟩
abbrev main_call15_v3 : Ref sig .tc := ⟨.hbm, 602, rfl⟩
abbrev main_call15_v4 : Ref sig .tc := ⟨.hbm, 603, rfl⟩
abbrev main_v361 : Ref sig .tc := ⟨.hbm, 604, rfl⟩
abbrev main_c_142 : Ref sig .tc := ⟨.hbm, 605, rfl⟩
abbrev main_v362 : Ref sig .tc := ⟨.hbm, 606, rfl⟩
abbrev main_v363 : Ref sig .tc := ⟨.hbm, 607, rfl⟩
abbrev main_c_143 : Ref sig .tc := ⟨.hbm, 608, rfl⟩
abbrev main_v364 : Ref sig .tc := ⟨.hbm, 609, rfl⟩
abbrev main_v365 : Ref sig .tc := ⟨.hbm, 610, rfl⟩
abbrev main_v366 : Ref sig .tc := ⟨.hbm, 611, rfl⟩
abbrev main_c_144 : Ref sig .tc := ⟨.hbm, 612, rfl⟩
abbrev main_v367 : Ref sig .tc := ⟨.hbm, 613, rfl⟩
abbrev main_v368 : Ref sig .tc := ⟨.hbm, 614, rfl⟩
abbrev main_c_145 : Ref sig .tc := ⟨.hbm, 615, rfl⟩
abbrev main_v369 : Ref sig .tc := ⟨.hbm, 616, rfl⟩
abbrev main_v370 : Ref sig .tc := ⟨.hbm, 617, rfl⟩
abbrev main_v371 : Ref sig .tc := ⟨.hbm, 618, rfl⟩
abbrev main_c_146 : Ref sig .tc := ⟨.hbm, 619, rfl⟩
abbrev main_v372 : Ref sig .tc := ⟨.hbm, 620, rfl⟩
abbrev main_v373 : Ref sig .tc := ⟨.hbm, 621, rfl⟩
abbrev main_c_147 : Ref sig .tc := ⟨.hbm, 622, rfl⟩
abbrev main_v374 : Ref sig .tc := ⟨.hbm, 623, rfl⟩
abbrev main_v375 : Ref sig .tc := ⟨.hbm, 624, rfl⟩
abbrev main_v376 : Ref sig .tc := ⟨.hbm, 625, rfl⟩
abbrev main_v377 : Ref sig .tc := ⟨.hbm, 626, rfl⟩
abbrev main_v378 : Ref sig .tc := ⟨.hbm, 627, rfl⟩
abbrev main_v379 : Ref sig .tc := ⟨.hbm, 628, rfl⟩
abbrev main_v380 : Ref sig .tc := ⟨.hbm, 629, rfl⟩
abbrev main_v381 : Ref sig .tc := ⟨.hbm, 630, rfl⟩
abbrev main_c_148 : Ref sig .tc := ⟨.hbm, 631, rfl⟩
abbrev main_v382 : Ref sig .tc := ⟨.hbm, 632, rfl⟩
abbrev main_v383 : Ref sig .tc := ⟨.hbm, 633, rfl⟩
abbrev main_c_149 : Ref sig .tc := ⟨.hbm, 634, rfl⟩
abbrev main_v384 : Ref sig .tc := ⟨.hbm, 635, rfl⟩
abbrev main_v385 : Ref sig .tc := ⟨.hbm, 636, rfl⟩
abbrev main_c_150 : Ref sig .tc := ⟨.hbm, 637, rfl⟩
abbrev main_c_151 : Ref sig .tc := ⟨.hbm, 638, rfl⟩
abbrev main_call16_v0 : Ref sig .tc := ⟨.hbm, 639, rfl⟩
abbrev main_call16_v1 : Ref sig .tc := ⟨.hbm, 640, rfl⟩
abbrev main_call16_v2 : Ref sig .tc := ⟨.hbm, 641, rfl⟩
abbrev main_call16_v3 : Ref sig .tc := ⟨.hbm, 642, rfl⟩
abbrev main_call16_v4 : Ref sig .tc := ⟨.hbm, 643, rfl⟩
abbrev main_v386 : Ref sig .tc := ⟨.hbm, 644, rfl⟩
abbrev main_c_152 : Ref sig .tc := ⟨.hbm, 645, rfl⟩
abbrev main_v387 : Ref sig .tc := ⟨.hbm, 646, rfl⟩
abbrev main_v388 : Ref sig .tc := ⟨.hbm, 647, rfl⟩
abbrev main_c_153 : Ref sig .tc := ⟨.hbm, 648, rfl⟩
abbrev main_v389 : Ref sig .tc := ⟨.hbm, 649, rfl⟩
abbrev main_v390 : Ref sig .tc := ⟨.hbm, 650, rfl⟩
abbrev main_v391 : Ref sig .tc := ⟨.hbm, 651, rfl⟩
abbrev main_c_154 : Ref sig .tc := ⟨.hbm, 652, rfl⟩
abbrev main_v392 : Ref sig .tc := ⟨.hbm, 653, rfl⟩
abbrev main_v393 : Ref sig .tc := ⟨.hbm, 654, rfl⟩
abbrev main_c_155 : Ref sig .tc := ⟨.hbm, 655, rfl⟩
abbrev main_v394 : Ref sig .tc := ⟨.hbm, 656, rfl⟩
abbrev main_v395 : Ref sig .tc := ⟨.hbm, 657, rfl⟩
abbrev main_v396 : Ref sig .tc := ⟨.hbm, 658, rfl⟩
abbrev main_c_156 : Ref sig .tc := ⟨.hbm, 659, rfl⟩
abbrev main_v397 : Ref sig .tc := ⟨.hbm, 660, rfl⟩
abbrev main_v398 : Ref sig .tc := ⟨.hbm, 661, rfl⟩
abbrev main_c_157 : Ref sig .tc := ⟨.hbm, 662, rfl⟩
abbrev main_v399 : Ref sig .tc := ⟨.hbm, 663, rfl⟩
abbrev main_v400 : Ref sig .tc := ⟨.hbm, 664, rfl⟩
abbrev main_v401 : Ref sig .tc := ⟨.hbm, 665, rfl⟩
abbrev main_v402 : Ref sig .tc := ⟨.hbm, 666, rfl⟩
abbrev main_v403 : Ref sig .tc := ⟨.hbm, 667, rfl⟩
abbrev main_v404 : Ref sig .tc := ⟨.hbm, 668, rfl⟩
abbrev main_v405 : Ref sig .tc := ⟨.hbm, 669, rfl⟩
abbrev main_v406 : Ref sig .tc := ⟨.hbm, 670, rfl⟩
abbrev main_c_158 : Ref sig .tc := ⟨.hbm, 671, rfl⟩
abbrev main_v407 : Ref sig .tc := ⟨.hbm, 672, rfl⟩
abbrev main_v408 : Ref sig .tc := ⟨.hbm, 673, rfl⟩
abbrev main_c_159 : Ref sig .tc := ⟨.hbm, 674, rfl⟩
abbrev main_v409 : Ref sig .tc := ⟨.hbm, 675, rfl⟩
abbrev main_v410 : Ref sig .tc := ⟨.hbm, 676, rfl⟩
abbrev main_c_160 : Ref sig .tc := ⟨.hbm, 677, rfl⟩
abbrev main_c_161 : Ref sig .tc := ⟨.hbm, 678, rfl⟩
abbrev main_call17_v0 : Ref sig .tc := ⟨.hbm, 679, rfl⟩
abbrev main_call17_v1 : Ref sig .tc := ⟨.hbm, 680, rfl⟩
abbrev main_call17_v2 : Ref sig .tc := ⟨.hbm, 681, rfl⟩
abbrev main_call17_v3 : Ref sig .tc := ⟨.hbm, 682, rfl⟩
abbrev main_call17_v4 : Ref sig .tc := ⟨.hbm, 683, rfl⟩
abbrev main_v411 : Ref sig .tc := ⟨.hbm, 684, rfl⟩
abbrev main_c_162 : Ref sig .tc := ⟨.hbm, 685, rfl⟩
abbrev main_v412 : Ref sig .tc := ⟨.hbm, 686, rfl⟩
abbrev main_v413 : Ref sig .tc := ⟨.hbm, 687, rfl⟩
abbrev main_c_163 : Ref sig .tc := ⟨.hbm, 688, rfl⟩
abbrev main_v414 : Ref sig .tc := ⟨.hbm, 689, rfl⟩
abbrev main_v415 : Ref sig .tc := ⟨.hbm, 690, rfl⟩
abbrev main_v416 : Ref sig .tc := ⟨.hbm, 691, rfl⟩
abbrev main_c_164 : Ref sig .tc := ⟨.hbm, 692, rfl⟩
abbrev main_v417 : Ref sig .tc := ⟨.hbm, 693, rfl⟩
abbrev main_v418 : Ref sig .tc := ⟨.hbm, 694, rfl⟩
abbrev main_c_165 : Ref sig .tc := ⟨.hbm, 695, rfl⟩
abbrev main_v419 : Ref sig .tc := ⟨.hbm, 696, rfl⟩
abbrev main_v420 : Ref sig .tc := ⟨.hbm, 697, rfl⟩
abbrev main_v421 : Ref sig .tc := ⟨.hbm, 698, rfl⟩
abbrev main_c_166 : Ref sig .tc := ⟨.hbm, 699, rfl⟩
abbrev main_v422 : Ref sig .tc := ⟨.hbm, 700, rfl⟩
abbrev main_v423 : Ref sig .tc := ⟨.hbm, 701, rfl⟩
abbrev main_c_167 : Ref sig .tc := ⟨.hbm, 702, rfl⟩
abbrev main_v424 : Ref sig .tc := ⟨.hbm, 703, rfl⟩
abbrev main_v425 : Ref sig .tc := ⟨.hbm, 704, rfl⟩
abbrev main_v426 : Ref sig .tc := ⟨.hbm, 705, rfl⟩
abbrev main_v427 : Ref sig .tc := ⟨.hbm, 706, rfl⟩
abbrev main_v428 : Ref sig .tc := ⟨.hbm, 707, rfl⟩
abbrev main_v429 : Ref sig .tc := ⟨.hbm, 708, rfl⟩
abbrev main_v430 : Ref sig .tc := ⟨.hbm, 709, rfl⟩
abbrev main_v431 : Ref sig .tc := ⟨.hbm, 710, rfl⟩

abbrev nD : Nat := 1
abbrev τ : Topo := Topo.v7x

variable {F : FTy → Type} [FloatOps F]
-- ==== Proof.KernelBlock.lean ====
/-
  What the kernel leaves after each grid point: the block of sixteen planes it writes, and the two arrays it keeps between
  points. The first point computes the heights and the columns' values and keeps them; every point then fills its block
  from them.
-/
module

public import proofs.«01_k».proof.Proof.Gen.KernelIdeal.Value
public import Idealize.ShloMosaic.Lib.Pointwise
public import Idealize.ShloMosaic.Lib.Pipeline.ValueKit
public import Idealize.ShloMosaic.Lib.WordCmp

@[expose] public section

noncomputable section

namespace Cert.KernelBlock

open Cert.KernelIdeal Cert.KernelIdeal.Gen Cert.KernelIdeal.Value
open Idealize.ShloMosaic Idealize.ShloMosaic.TcCoe Idealize.SL.Sem

variable {F : FTy → Type} [FloatOps F]

/-- The all-zero offsets of two axes, as a constant function. -/
theorem zero2 : (![0, 0] : Fin 2 → Nat) = fun _ => 0 := funext fun a => by fin_cases a <;> rfl
/-- The all-zero offsets of three axes, as a constant function. -/
theorem zero3 : (![0, 0, 0] : Fin 3 → Nat) = fun _ => 0 := funext fun a => by fin_cases a <;> rfl

/-- Reading the one word at offset `k` of the table gives its entry `k`. -/
theorem word_apply (x2 : Vec F S10 .f32) (k : Nat) (inb : ∀ a, (![k] : Fin 1 → Nat) a + S1.size a ≤ S10.size a)
    (j : S1.Idx) : View.ld x2 (Rect.unit (s := S10) ![k] ![1] inb) j = x2 (ix1 ⟨k, Nat.lt_of_succ_le (inb 0)⟩) :=
  View.ld_unit_apply_of x2 _ _ inb j _ fun a => by
    match a with
    | ⟨0, _⟩ =>
      have := (j 0).isLt
      show k = k + (j 0 : Nat)
      have : (j 0 : Nat) < 1 := this
      omega

/-- The columns' values as the first point computes them from the ids and the table. -/
def colours (x1 : Vec F S1x512x512 .i32) (x2 : Vec F S10 .f32) : Vec F S512x512 .f32 :=
  k0_pay1 (F := F) (k0_pay4 (F := F) x1) (k0_pay5 x1 (x2 (ix1 0)) (x2 (ix1 1)) (x2 (ix1 2)) (x2 (ix1 3))) (k0_pay6 (F := F) x1)
    (x2 (ix1 4)) (x2 (ix1 5)) (x2 (ix1 6)) (x2 (ix1 7)) (x2 (ix1 8)) (x2 (ix1 9))

/-- The one-word read of the table at offset `k`. -/
abbrev word (x2 : Vec F S10 .f32) (k : Nat) (inb : ∀ a, (![k] : Fin 1 → Nat) a + S1.size a ≤ S10.size a) : Elt F .f32 :=
  View.ld x2 (Rect.unit (s := S10) ![k] S1.size inb) (Shape.Idx.first (Nat.lt_of_lt_of_eq Nat.one_pos numel1_S1.symm))

/-- The same values over the ten one-word reads of the table. -/
theorem colours_words (x1 : Vec F S1x512x512 .i32) (x2 : Vec F S10 .f32) :
    k0_pay1 (F := F) (k0_pay4 (F := F) x1)
      (k0_pay5 x1 (word x2 0 inb_S10_S1_0) (word x2 1 inb_S10_S1_1) (word x2 2 inb_S10_S1_2) (word x2 3 inb_S10_S1_3))
      (k0_pay6 (F := F) x1) (word x2 4 inb_S10_S1_4) (word x2 5 inb_S10_S1_5) (word x2 6 inb_S10_S1_6)
      (word x2 7 inb_S10_S1_7) (word x2 8 inb_S10_S1_8) (word x2 9 inb_S10_S1_9) = colours x1 x2 := by
  have h : ∀ (k : Nat) (inb : ∀ a, (![k] : Fin 1 → Nat) a + S1.size a ≤ S10.size a),
      word x2 k inb = x2 (ix1 ⟨k, Nat.lt_of_succ_le (inb 0)⟩) := fun k inb => word_apply x2 k inb _
  rw [h, h, h, h, h, h, h, h, h, h]
  rfl

section Cases

variable (c : Dev nD) (i : grid0.Coords) (a1 : Memref sig .tc .vmem S1x512x512 .f32) (h1 : a1.IsWhole)
  (a2 : Memref sig .tc .vmem S1x512x512 .i32) (h2 : a2.IsWhole) (a3 : Memref sig .tc .smem S10 .f32) (h3 : a3.IsWhole)
  (a4 : Memref sig .tc .vmem S16x512x512 .f32) (h4 : a4.IsWhole) (a5 : Memref sig .tc .vmem S512x512 .i32) (h5 : a5.IsWhole)
  (a6 : Memref sig .tc .vmem S512x512 .f32) (h6 : a6.IsWhole)

/-- At a later point the block is filled from the two kept arrays. -/
theorem later_block (hc : ¬cond0_0 i) (x0 : Vec F S1x512x512 .f32) (x1 : Vec F S1x512x512 .i32) (x2 : Vec F S10 .f32)
    (xs0 : Vec F S512x512 .i32) (xs1 : Vec F S512x512 .f32) :
    out0_B_3 c i a1 h1 a2 h2 a3 h3 a4 h4 a5 h5 a6 h6 hc x0 x1 x2 xs0 xs1 = k0_pay2 i xs0 xs1 := by
  unfold out0_B_3
  rw [View.read_writes_eq_canon _ _ _ (cover0_B_3 c i a1 h1 a2 h2 a3 h3 a4 h4 a5 h5 a6 h6 hc x0 x1 x2 xs0 xs1)]
  unfold kernelRun0_B
  dsimp only
  rw [View.canon_unit_zero zero3]
  simp only [View.readAt_eq_ld, h5.read_unread, h6.read_unread, View.ld_unit_zero (S := S512x512) zero2]

/-- At the first point the heights are kept. -/
theorem first_heights (hc : cond0_0 i) (x0 : Vec F S1x512x512 .f32) (x1 : Vec F S1x512x512 .i32) (x2 : Vec F S10 .f32) :
    sout0_A_0 c i a1 h1 a2 h2 a3 h3 a4 h4 a5 h5 a6 h6 hc x0 x1 x2 = k0_pay3 x0 := by
  unfold sout0_A_0
  rw [View.read_writes_eq_canon _ _ _ (scover0_A_0 c i a1 h1 a2 h2 a3 h3 a4 h4 a5 h5 a6 h6 hc x0 x1 x2)]
  unfold kernelRun0_A
  dsimp only
  sl_unfold_words
  rw [View.canon_unit_zero zero2]
  simp only [View.readAt_eq_ld, h1.read_unread, View.ld_unit_zero (S := S1x512x512) zero3]

/-- At the first point the columns' values are kept. -/
theorem first_colours (hc : cond0_0 i) (x0 : Vec F S1x512x512 .f32) (x1 : Vec F S1x512x512 .i32) (x2 : Vec F S10 .f32) :
    sout0_A_1 c i a1 h1 a2 h2 a3 h3 a4 h4 a5 h5 a6 h6 hc x0 x1 x2 = colours x1 x2 := by
  unfold sout0_A_1
  rw [View.read_writes_eq_canon _ _ _ (scover0_A_1 c i a1 h1 a2 h2 a3 h3 a4 h4 a5 h5 a6 h6 hc x0 x1 x2)]
  unfold kernelRun0_A
  dsimp only
  sl_unfold_words
  rw [View.canon_unit_zero zero2]
  simp only [View.readAt_eq_ld, h2.read_unread, h3.read_unread, View.ld_unit_zero (S := S1x512x512) zero3]
  exact colours_words x1 x2

/-- At the first point the block is filled from the arrays just kept. -/
theorem first_block (hc : cond0_0 i) (x0 : Vec F S1x512x512 .f32) (x1 : Vec F S1x512x512 .i32) (x2 : Vec F S10 .f32) :
    out0_A_3 c i a1 h1 a2 h2 a3 h3 a4 h4 a5 h5 a6 h6 hc x0 x1 x2 = k0_pay2 i (k0_pay3 x0) (colours x1 x2) := by
  unfold out0_A_3
  rw [View.read_writes_eq_canon _ _ _ (cover0_A_3 c i a1 h1 a2 h2 a3 h3 a4 h4 a5 h5 a6 h6 hc x0 x1 x2)]
  unfold kernelRun0_A
  dsimp only
  sl_unfold_words
  rw [View.canon_unit_zero zero3, View.readCov_unit_zero (S := S512x512) _ zero2, View.readCov_unit_zero (S := S512x512) _ zero2]
  simp only [View.readAt_eq_ld, h1.read_unread, h2.read_unread, h3.read_unread, View.ld_unit_zero (S := S1x512x512) zero3]
  exact congrArg (k0_pay2 i (k0_pay3 x0)) (colours_words x1 x2)

end Cases

section Run

variable (m : (ℓ : Loc nD τ sig) → Buf (Elt F) ℓ) (c : Dev nD)

/-- The three arrays the kernel is given: heights, biome ids, table. -/
abbrev heights0 : Vec F S1x512x512 .f32 := m ((c : Thread nD τ).loc main_arg0)
abbrev ids0 : Vec F S1x512x512 .i32 := m ((c : Thread nD τ).loc main_arg1)
abbrev table0 : Vec F S10 .f32 := m ((c : Thread nD τ).loc main_arg2)

/-- The height map's block is the whole map, at every point. -/
theorem block_heights (t : Fin cfg0.N) : (iblk m c 0 t : Vec F S1x512x512 .f32) = heights0 m c := by
  have hi : ∀ t : Fin grid0.N, win0_0.index t 0 = 0 ∧ win0_0.index t 1 = 0 ∧ win0_0.index t 2 = 0 := by decide +kernel
  obtain ⟨e0, e1, e2⟩ := hi t
  funext j
  unfold iblk
  rw [View.read_apply]
  show V m c main_arg0 _ = _
  rw [V_main_arg0]
  refine congrArg (heights0 m c) (funext fun a => Fin.ext ?_)
  match a with
  | ⟨0, _⟩ => show win0_0.index t 0 * 1 + 1 * (j 0).val = (j 0).val; rw [e0]; omega
  | ⟨1, _⟩ => show win0_0.index t 1 * 512 + 1 * (j 1).val = (j 1).val; rw [e1]; omega
  | ⟨2, _⟩ => show win0_0.index t 2 * 512 + 1 * (j 2).val = (j 2).val; rw [e2]; omega

/-- The id map's block is the whole map, at every point. -/
theorem block_ids (t : Fin cfg0.N) : (iblk m c 1 t : Vec F S1x512x512 .i32) = ids0 m c := by
  have hi : ∀ t : Fin grid0.N, win0_1.index t 0 = 0 ∧ win0_1.index t 1 = 0 ∧ win0_1.index t 2 = 0 := by decide +kernel
  obtain ⟨e0, e1, e2⟩ := hi t
  funext j
  unfold iblk
  rw [View.read_apply]
  show V m c main_arg1 _ = _
  rw [V_main_arg1]
  refine congrArg (ids0 m c) (funext fun a => Fin.ext ?_)
  match a with
  | ⟨0, _⟩ => show win0_1.index t 0 * 1 + 1 * (j 0).val = (j 0).val; rw [e0]; omega
  | ⟨1, _⟩ => show win0_1.index t 1 * 512 + 1 * (j 1).val = (j 1).val; rw [e1]; omega
  | ⟨2, _⟩ => show win0_1.index t 2 * 512 + 1 * (j 2).val = (j 2).val; rw [e2]; omega

/-- The table's block is the whole table, at every point. -/
theorem block_table (t : Fin cfg0.N) : (iblk m c 2 t : Vec F S10 .f32) = table0 m c := by
  have hi : ∀ t : Fin grid0.N, win0_2.index t 0 = 0 := by decide +kernel
  have e0 := hi t
  funext j
  unfold iblk
  rw [View.read_apply]
  show V m c main_arg2 _ = _
  rw [V_main_arg2]
  refine congrArg (table0 m c) (funext fun a => Fin.ext ?_)
  match a with
  | ⟨0, _⟩ => show win0_2.index t 0 * 10 + 1 * (j 0).val = (j 0).val; rw [e0]; omega

/-- After every point: its block, filled from the heights and the columns' values, and those two arrays kept. -/
theorem outs_eq : ∀ (n : ℕ) (h : n < cfg0.N), outsAt0 m c n h
    = (k0_pay2 (grid0.coords ⟨n, h⟩) (k0_pay3 (heights0 m c)) (colours (ids0 m c) (table0 m c)), k0_pay3 (heights0 m c),
        colours (ids0 m c) (table0 m c))
  | 0, h => by
    rw [outsAt0_A m c ⟨0, h⟩ rfl, first_block, first_heights, first_colours, block_heights, block_ids, block_table]
  | n + 1, h => by
    have hN : cfg0.N = 16 := N_0
    have hB : ¬(⟨n + 1, h⟩ : Fin cfg0.N).val % 16 = 0 := by dsimp only; omega
    rw [outsAt0_B m c ⟨n + 1, h⟩ hB, later_block]
    have e := outs_eq n (Nat.lt_of_succ_lt h)
    simp only [Nat.add_sub_cancel, e, sout0_B_0, sout0_B_1]

/-- The kernel's result read at an entry: the block of the point that writes it. -/
theorem result_apply (z : Fin 256) (x y : Fin 512) (t : Fin cfg0.N) (ht : t.val = z.val / 16) :
    G3 m c (ix3 z x y) = k0_pay2 (grid0.coords t) (k0_pay3 (heights0 m c)) (colours (ids0 m c) (table0 m c))
      (ix3 ⟨z.val % 16, Nat.mod_lt _ (by decide)⟩ x y) := by
  have hx := x.isLt
  have hy := y.isLt
  have hp : pt3Of (ix3 z x y) = t.val := by
    show 1 * (z.val / 16 - 0) + 1 * (x.val / 512 - 0) + 1 * (y.val / 512 - 0) = t.val
    omega
  have hl : loc3Of (ix3 z x y) = ix3 ⟨z.val % 16, Nat.mod_lt _ (by decide)⟩ x y := by
    funext a
    apply Fin.ext
    match a with
    | ⟨0, _⟩ => rfl
    | ⟨1, _⟩ => exact Nat.mod_eq_of_lt hx
    | ⟨2, _⟩ => exact Nat.mod_eq_of_lt hy
  unfold G3
  have hlt : pt3Of (ix3 z x y) < cfg0.N := hp ▸ t.isLt
  rw [dif_pos hlt, ← outsAt0_sweep m c _ hlt, outs_eq, hl]
  dsimp only
  congr 2
  exact Fin.ext hp

end Run

end Cert.KernelBlock

end
-- ==== Proof.Scatter3.lean ====
/-
  A scatter of one scalar per column of an `X × Y` table into a `Z × X × Y` array, three index words for each update:
  `x0.at[k, r, c].set(upd)` with `k`, `r`, `c` given as `X × Y` tables. Where an update lands, and what the array holds
  afterwards when every update keeps to its own column. Nothing here names a program.
-/
module

public import Idealize.ShloMosaic.Lib.Routing.OpsSet
public import Idealize.ShloMosaic.Lib.PointwiseCore

@[expose] public section

namespace Cert.Scatter3

open Idealize.ShloMosaic

/-- The dimension numbers of that scatter: all three axes of the array are named by the index words. -/
abbrev setDims (Z X Y : Nat) (wf : ScatterDims.WF ⟨3, ![Z, X, Y]⟩ ⟨3, ![X, Y, 3]⟩ ⟨2, ![X, Y]⟩ [] [0, 1, 2] [0, 1, 2] 2) :
    ScatterDims ⟨3, ![Z, X, Y]⟩ ⟨3, ![X, Y, 3]⟩ ⟨2, ![X, Y]⟩ where
  updateWindowDims := []
  insertedWindowDims := [0, 1, 2]
  scatterDimsToOperandDims := [0, 1, 2]
  indexVectorDim := 2
  wf := wf

variable {Z X Y w : Nat} (wf : ScatterDims.WF ⟨3, ![Z, X, Y]⟩ ⟨3, ![X, Y, 3]⟩ ⟨2, ![X, Y]⟩ [] [0, 1, 2] [0, 1, 2] 2)

/-- Axis `q` of the array starts at the `q`-th index word of the update, read signed. -/
theorem start_eq (idx : IVec ⟨3, ![X, Y, 3]⟩ w) (a : Fin X) (b : Fin Y) (q : Fin 3) :
    (setDims Z X Y wf).start (ix2 a b) idx q = (idx (ix3 a b q)).toInt := by
  have hm : q ∈ (setDims Z X Y wf).scatterDimsToOperandDims := by
    show q ∈ ([0, 1, 2] : List (Fin 3))
    revert q
    decide
  unfold ScatterDims.start
  rw [dif_pos hm]
  congr 2
  funext p
  refine Fin.ext ?_
  match p with
  | ⟨0, _⟩ => rfl
  | ⟨1, _⟩ => rfl
  | ⟨2, _⟩ => fin_cases q <;> rfl

/-- No axis of the array carries a window. -/
theorem window_eq (k : (⟨2, ![X, Y]⟩ : Shape).Idx) (q : Fin 3) : (setDims Z X Y wf).window k q = 0 := by
  unfold ScatterDims.window
  rw [dif_neg]
  show q ∉ (List.finRange 3).filter fun x => decide (x ∉ [0, 1, 2])
  revert q
  decide

/-- Update `(a, b)` lands at `(z, x, y)` exactly when its three words, read signed, are `z`, `x` and `y`. -/
theorem lands_iff (idx : IVec ⟨3, ![X, Y, 3]⟩ w) (a : Fin X) (b : Fin Y) (z : Fin Z) (x : Fin X) (y : Fin Y) :
    (setDims Z X Y wf).resultIdx? (ix2 a b) idx = some (ix3 z x y)
      ↔ (idx (ix3 a b 0)).toInt = z.val ∧ (idx (ix3 a b 1)).toInt = x.val ∧ (idx (ix3 a b 2)).toInt = y.val := by
  have hs := start_eq (Z := Z) wf idx a b
  have hw := window_eq (Z := Z) wf (ix2 a b)
  rw [Routing.resultIdx?_eq_some]
  constructor
  · intro h
    have h0 := h 0
    have h1 := h 1
    have h2 := h 2
    rw [hs, hw] at h0 h1 h2
    simp only [ix3_0, ix3_1, ix3_2] at h0 h1 h2
    exact ⟨by simpa using h0, by simpa using h1, by simpa using h2⟩
  · rintro ⟨h0, h1, h2⟩ q
    rw [hs, hw]
    match q with
    | ⟨0, _⟩ => exact (Int.add_zero _).trans h0
    | ⟨1, _⟩ => exact (Int.add_zero _).trans h1
    | ⟨2, _⟩ => exact (Int.add_zero _).trans h2

/-- The scatter in which the update of column `(a, b)` goes to column `(a, b)`, at the height that `k (a, b)` gives:
    entry `(z, x, y)` becomes the update of its column when the height of that column is `z`, and stays otherwise. -/
theorem set_column {α : Type} (x0 : (⟨3, ![Z, X, Y]⟩ : Shape).Idx → α) (idx : IVec ⟨3, ![X, Y, 3]⟩ w)
    (upd : (⟨2, ![X, Y]⟩ : Shape).Idx → α) (h1 : ∀ a b, (idx (ix3 a b 1)).toInt = a.val)
    (h2 : ∀ a b, (idx (ix3 a b 2)).toInt = b.val) (z : Fin Z) (x : Fin X) (y : Fin Y) :
    Host.scatter (setDims Z X Y wf) (fun _ b => b) x0 idx upd (ix3 z x y)
      = if (idx (ix3 x y 0)).toInt = z.val then upd (ix2 x y) else x0 (ix3 z x y) := by
  have own : ∀ k : (⟨2, ![X, Y]⟩ : Shape).Idx, (setDims Z X Y wf).resultIdx? k idx = some (ix3 z x y) →
      k = ix2 x y ∧ (idx (ix3 x y 0)).toInt = z.val := by
    intro k hk
    obtain ⟨a, b, rfl⟩ : ∃ (a : Fin X) (b : Fin Y), k = ix2 a b := ⟨k 0, k 1, eq_ix2 k⟩
    obtain ⟨e0, e1, e2⟩ := (lands_iff wf idx a b z x y).1 hk
    rw [h1] at e1
    rw [h2] at e2
    obtain rfl : a = x := Fin.ext (by exact_mod_cast e1)
    obtain rfl : b = y := Fin.ext (by exact_mod_cast e2)
    exact ⟨rfl, e0⟩
  split
  · next h =>
    exact Routing.scatter_set_hit _ x0 idx upd _ _ (fun k hk => by rw [(own k hk).1]) (ix2 x y)
      ((lands_iff wf idx x y z x y).2 ⟨h, h1 x y, h2 x y⟩)
  · next h => exact Routing.scatter_set_miss _ x0 idx upd _ fun k hk => h (own k hk).2

end Cert.Scatter3

end
-- ==== Proof.RefLayers.lean ====
/-
  The reference's seventeen scatters read at an entry. Each one writes, in every column `(x, y)` of the voxel array, the
  column's value at one height; the heights are the clipped height of the map and the sixteen above it, clipped again.
  After all of them an entry holds its column's value when it lies from the height to sixteen above, and zero otherwise.
-/
module

public import proofs.«01_k».proof.Proof.Scatter3
public import proofs.«01_k».proof.Proof.Gen.ReferenceIdeal.Run
public import Idealize.ShloMosaic.Lib.Pointwise
public import Idealize.ShloMosaic.Lib.ReduceAll

@[expose] public section

noncomputable section

namespace Cert.RefLayers

open Cert.ReferenceIdeal Cert.ReferenceIdeal.Gen Cert.ReferenceIdeal.Value
open Idealize.ShloMosaic Idealize.ShloMosaic.StableHlo

/-- A word clipped to `[0, 255]`, read signed. -/
def clip (v : BitVec 32) : BitVec 32 := IntOp.minsi 255#32 (IntOp.maxsi 0#32 v)

/-- A clipped word is the signed value of the word, brought into `[0, 255]`. -/
theorem clip_toInt (v : BitVec 32) : (clip v).toInt = min 255 (max 0 v.toInt) := by
  unfold clip IntOp.minsi IntOp.maxsi
  have e0 : (0#32 : BitVec 32).toInt = 0 := by decide
  have e1 : (255#32 : BitVec 32).toInt = 255 := by decide
  simp only [BitVec.slt, BitVec.sle, decide_eq_true_eq]
  split <;> split <;> simp_all <;> omega

variable {F : FTy → Type} [FloatOps F] (V0 : Valuation τ sig (Elt F))

/-- One coordinate of a scatter's index triples: the table of coordinates, those below zero moved up by the extent `n`. -/
def axisWords (n : BitVec 32) (A : IVec S512x512 32) : IVec S512x512x1 32 :=
  broadcastInDim S512x512x1 ![0, 1] bcast_S512x512_S512x512x1_0_1
    (select (cmpi .slt A (broadcastInDim S512x512 ![] bcast_S_S512x512 (constantI S_ 32 0#32)))
      (addi A (broadcastInDim S512x512 ![] bcast_S_S512x512 (constantI S_ 32 n))) A)

/-- The index triples of the scatter at the heights `A`: height, row, column. -/
def triples (A : IVec S512x512 32) : IVec S512x512x3 32 :=
  concatenate S512x512x3 2 [⟨S512x512x1, axisWords 256#32 A⟩, ⟨S512x512x1, axisWords 512#32 (res_main_v9 V0)⟩,
    ⟨S512x512x1, axisWords 512#32 (res_main_v10 V0)⟩] concatenates_S512x512x1_S512x512x1_S512x512x1_S512x512x3_d2

/-- One scatter: every column's value written at the height that `A` gives. -/
def layer (A : IVec S512x512 32) (x : Vec F S256x512x512 .f32) : Vec F S256x512x512 .f32 :=
  Host.scatter scatter_S256x512x512_S512x512x3_S512x512_n_012_012_2 (fun _ b => b) x (triples V0 A) (res_main_v6 V0)

/-- The heights of the scatter `k + 1` above the map's own. -/
def raised (k : BitVec 32) : IVec S512x512 32 :=
  minsi (broadcastInDim S512x512 ![] bcast_S_S512x512 (id (constantI S_ 32 255#32)))
    (maxsi (broadcastInDim S512x512 ![] bcast_S_S512x512 (id (constantI S_ 32 0#32)))
      (addi (addi (res_main_v4 V0) (broadcastInDim S512x512 ![] bcast_S_S512x512 (constantI S_ 32 k)))
        (broadcastInDim S512x512 ![] bcast_S_S512x512 (constantI S_ 32 1#32))))

/-- The voxel array after the scatter at the map's heights and the `n` above it. -/
def layers : ℕ → Vec F S256x512x512 .f32
  | 0 => layer V0 (res_main_v4 V0) (broadcastInDim S256x512x512 ![] bcast_S_S256x512x512 (constant S_ .f32 0x00000000#32))
  | n + 1 => layer V0 (raised V0 (BitVec.ofNat 32 n)) (layers n)

/-- The reference's array after its first four scatters is the third layer's. -/
theorem v106_eq : res_main_v106 V0 = layers V0 3 := rfl
/-- The reference's array after its first eight scatters is the seventh layer's. -/
theorem v206_eq : res_main_v206 V0 = layers V0 7 := by
  unfold res_main_v206
  rw [v106_eq]
  rfl
/-- The reference's array after its first twelve scatters is the eleventh layer's. -/
theorem v306_eq : res_main_v306 V0 = layers V0 11 := by
  unfold res_main_v306
  rw [v206_eq]
  rfl
/-- The reference's array before its last scatter is the fifteenth layer's. -/
theorem v406_eq : res_main_v406 V0 = layers V0 15 := by
  unfold res_main_v406
  rw [v306_eq]
  rfl

/-- The map's clipped heights, one word per column. -/
abbrev height : IVec S512x512 32 := res_main_v4 V0

/-- The values of the columns. -/
abbrev colour : Vec F S512x512 .f32 := res_main_v6 V0

/-- The biome ids, as the program is given them. -/
abbrev ids : IVec S1x512x512 32 := V0 (Proc.devRef .tc main_arg1)

/-- The table of values, as the program is given it. -/
abbrev table : Vec F S10 .f32 := V0 (Proc.devRef .tc main_arg2)

/-- Wrapping leaves a word that is not negative as it is. -/
theorem axisWords_apply (n : BitVec 32) (A : IVec S512x512 32) (x y : Fin 512) (h : 0 ≤ (A (ix2 x y)).toInt) :
    axisWords n A (ix3 x y 0) = A (ix2 x y) := by
  unfold axisWords
  pointwise
  exact Routing.wrap_of_lt _ _ ((WordCmp.toInt_nonneg_iff_lt_half _).1 h)

/-- The triple of column `(x, y)` is read off the three tables of coordinates. -/
theorem triples_apply (A : IVec S512x512 32) (x y : Fin 512) :
    triples V0 A (ix3 x y 0) = axisWords 256#32 A (ix3 x y 0)
      ∧ triples V0 A (ix3 x y 1) = axisWords 512#32 (res_main_v9 V0) (ix3 x y 0)
      ∧ triples V0 A (ix3 x y 2) = axisWords 512#32 (res_main_v10 V0) (ix3 x y 0) := by
  unfold triples
  generalize axisWords 256#32 A = a
  generalize axisWords 512#32 (res_main_v9 V0) = b
  generalize axisWords 512#32 (res_main_v10 V0) = c
  refine ⟨?_, ?_, ?_⟩ <;> pointwise

/-- The rows' table holds the row, the columns' table the column. -/
theorem rows_apply (x y : Fin 512) : (res_main_v9 V0 : IVec S512x512 32) (ix2 x y) = BitVec.ofNat 32 x.val := by
  unfold res_main_v9
  pointwise
/-- The column coordinate of column `(x, y)` is `y`. -/
theorem cols_apply (x y : Fin 512) : (res_main_v10 V0 : IVec S512x512 32) (ix2 x y) = BitVec.ofNat 32 y.val := by
  unfold res_main_v10
  pointwise

/-- A coordinate below 512, as a word, reads signed as itself. -/
theorem coord_toInt (k : Fin 512) : (BitVec.ofNat 32 k.val).toInt = k.val :=
  WordCmp.toInt_ofNat_of_lt (by have := k.isLt; omega)

/-- One scatter read at an entry: the column's value at the height that `A` gives, the old entry elsewhere. -/
theorem layer_apply (A : IVec S512x512 32) (hA : ∀ x y : Fin 512, 0 ≤ (A (ix2 x y)).toInt) (x0 : Vec F S256x512x512 .f32)
    (z : Fin 256) (x y : Fin 512) :
    layer V0 A x0 (ix3 z x y) = if (A (ix2 x y)).toInt = z.val then colour V0 (ix2 x y) else x0 (ix3 z x y) := by
  refine (Scatter3.set_column _ x0 (triples V0 A) (colour V0) (fun a b => ?_) (fun a b => ?_) z x y).trans ?_
  · rw [(triples_apply V0 A a b).2.1, axisWords_apply, rows_apply, coord_toInt]
    rw [rows_apply, coord_toInt]
    omega
  · rw [(triples_apply V0 A a b).2.2, axisWords_apply, cols_apply, coord_toInt]
    rw [cols_apply, coord_toInt]
    omega
  · rw [(triples_apply V0 A x y).1, axisWords_apply _ _ _ _ (hA x y)]

/-- The map's height is the clip of a word, so it lies in `[0, 255]`. -/
theorem height_apply (x y : Fin 512) : height V0 (ix2 x y)
    = clip (FloatOps.fptosi 32 (FloatOps.mulf ((V0 (Proc.devRef .tc main_arg0) : Vec F S1x512x512 .f32) (ix3 0 x y))
        (FloatOps.ofBits .f32 0x437F0000#32))) := by
  unfold height res_main_v4 clip
  pointwise
  rfl

/-- The height of the scatter `k + 1` above the map's own, at a column: the map's height plus `k + 1`, clipped again. -/
theorem raised_apply (k : BitVec 32) (x y : Fin 512) :
    raised V0 k (ix2 x y) = clip (height V0 (ix2 x y) + k + 1#32) := by
  unfold raised clip
  pointwise
  rfl

/-- Up to sixteen added to a height does not leave the words' signed range. -/
theorem add_toInt (v : BitVec 32) (h0 : 0 ≤ v.toInt) (h1 : v.toInt ≤ 255) (n : ℕ) (hn : n < 16) :
    (v + BitVec.ofNat 32 n + 1#32).toInt = v.toInt + n + 1 := by
  rw [BitVec.toInt_add, BitVec.toInt_add, WordCmp.toInt_ofNat_of_lt (by omega), show (1#32 : BitVec 32).toInt = 1 from by decide]
  simp only [Int.bmod_def]
  omega

/-- Every clipped height lies in `[0, 255]`. -/
theorem height_range (x y : Fin 512) : 0 ≤ (height V0 (ix2 x y)).toInt ∧ (height V0 (ix2 x y)).toInt ≤ 255 := by
  rw [height_apply, clip_toInt]
  omega

/-- The array after the scatters at the map's heights and the `n` above: the column's value from the height to `n` above. -/
theorem layers_apply (z : Fin 256) (x y : Fin 512) : ∀ n : ℕ, n ≤ 16 →
    layers V0 n (ix3 z x y)
      = if (height V0 (ix2 x y)).toInt ≤ z.val ∧ (z.val : Int) ≤ (height V0 (ix2 x y)).toInt + n then colour V0 (ix2 x y)
        else FloatOps.ofBits .f32 0x00000000#32
  | 0, _ => by
    rw [layers, layer_apply V0 _ fun a b => (height_range V0 a b).1]
    refine if_congr (by constructor <;> intro h <;> omega) rfl ?_
    pointwise
  | n + 1, hn => by
    have hr : ∀ a b : Fin 512, (raised V0 (BitVec.ofNat 32 n) (ix2 a b)).toInt = min 255 ((height V0 (ix2 a b)).toInt + n + 1) := by
      intro a b
      have h := height_range V0 a b
      rw [raised_apply, clip_toInt, add_toInt _ h.1 h.2 n (by omega)]
      omega
    have hx := height_range V0 x y
    have hz := z.isLt
    rw [layers, layer_apply V0 _ fun a b => by rw [hr]; have := height_range V0 a b; omega]
    rw [hr, layers_apply z x y n (by omega)]
    push_cast
    split_ifs <;> first | omega | rfl

/-- The biome id of column `(x, y)`. -/
theorem id_apply (x y : Fin 512) : (res_main_v5 V0 : IVec S512x512 32) (ix2 x y) = ids V0 (ix3 0 x y) := by
  unfold res_main_v5
  pointwise

/-- The index that the table is read at: the biome id, when the id is not negative. -/
theorem take_apply (x y : Fin 512) (k : Fin 1) (h : 0 ≤ (ids V0 (ix3 0 x y)).toInt) :
    (res_main_call1_v5 V0 : IVec S512x512x1 32) (ix3 x y k) = ids V0 (ix3 0 x y) := by
  unfold res_main_call1_v5
  pointwise
  rw [id_apply]
  exact Routing.wrap_of_lt _ _ ((WordCmp.toInt_nonneg_iff_lt_half _).1 h)

/-- When every biome id lies in `[0, 10)`, a column's value is the table's entry at the column's id. -/
theorem colour_apply (hid : ∀ i, 0 ≤ (ids V0 i).toInt ∧ (ids V0 i).toInt < 10) (x y : Fin 512) :
    colour V0 (ix2 x y) = table V0 (ix1 ⟨(ids V0 (ix3 0 x y)).toInt.toNat, by have := hid (ix3 0 x y); omega⟩) := by
  have hxy := hid (ix3 0 x y)
  unfold colour res_main_v6
  rw [WordCmp.select_at, Host.reduce_andi_one _ _ _ _ _ rfl fun i => ?_]
  · refine (ValueIdx.gather_take_apply (by omega) _ (table V0) (res_main_call1_v5 V0) (ix2 x y)).trans ?_
    have e : (res_main_call1_v5 V0 : IVec S512x512x1 32) (ValueIdx.takeIdx (ix2 x y)) = ids V0 (ix3 0 x y) := by
      rw [← take_apply V0 x y 0 hxy.1]
      congr 1
      funext a
      match a with
      | ⟨0, _⟩ => rfl
      | ⟨1, _⟩ => rfl
      | ⟨2, _⟩ => rfl
    refine congrArg (table V0) (funext fun a => Fin.ext ?_)
    match a with
    | ⟨0, _⟩ =>
      show min ((res_main_call1_v5 V0 : IVec S512x512x1 32) (ValueIdx.takeIdx (ix2 x y))).toInt.toNat (10 - 1) = (ids V0 (ix3 0 x y)).toInt.toNat
      rw [e]
      omega
  · obtain ⟨a, b, k, rfl⟩ : ∃ (a : Fin 512) (b : Fin 512) (k : Fin 1), i = ix3 a b k := ⟨i 0, i 1, i 2, eq_ix3 i⟩
    have h := hid (ix3 0 a b)
    pointwise
    rw [take_apply V0 a b k h.1, WordCmp.cmpi_sge_eq, WordCmp.cmpi_sle_eq, WordCmp.andi_ofBool, WordCmp.ofBool_eq_one_iff,
      Bool.and_eq_true, decide_eq_true_eq, decide_eq_true_eq, show (0#32 : BitVec 32).toInt = 0 from by decide,
      show (9#32 : BitVec 32).toInt = 9 from by decide]
    omega

end Cert.RefLayers

end
-- ==== Proof.Equation.lean ====
/-
  The kernel's block and the reference's layers are the same array. Both hold, at height `z` of column `(x, y)`, the table's
  entry at the column's biome id when `z` lies from the column's height to sixteen above it, and zero otherwise.
-/
module

public import proofs.«01_k».proof.Defs
public import proofs.«01_k».proof.Proof.Gen.Pre_biome_ids
public import proofs.«01_k».proof.Proof.KernelBlock
public import proofs.«01_k».proof.Proof.RefLayers

@[expose] public section

noncomputable section

namespace Cert.Equation

open Idealize.ShloMosaic Idealize.SL.Sem

section Block

open Cert.KernelIdeal Cert.KernelIdeal.Gen Cert.KernelBlock

variable {F : FTy → Type} [FloatOps F]

/-- The kernel's height of column `(x, y)`. -/
theorem kept_height (x0 : Vec F S1x512x512 .f32) (x y : Fin 512) : k0_pay3 x0 (ix2 x y)
    = RefLayers.clip (FloatOps.fptosi 32 (FloatOps.mulf (x0 (ix3 0 x y)) (FloatOps.ofBits .f32 0x437F0000#32))) := by
  unfold k0_pay3 RefLayers.clip
  pointwise

/-- The kernel's value of a column whose biome id is the word of `n`: the table's entry `n`. -/
theorem kept_colour (x1 : Vec F S1x512x512 .i32) (x2 : Vec F S10 .f32) (x y : Fin 512) (n : Fin 10)
    (hn : x1 (ix3 0 x y) = BitVec.ofNat 32 n.val) : colours x1 x2 (ix2 x y) = x2 (ix1 n) := by
  unfold colours k0_pay1 k0_pay5 k0_pay6 k0_pay4
  pointwise
  rw [hn]
  fin_cases n <;> rfl

/-- A height of the block less a column's height does not leave the words' signed range. -/
theorem above_toInt (z : ℕ) (hz : z < 256) (h : BitVec 32) (h0 : 0 ≤ h.toInt) (h1 : h.toInt ≤ 255) :
    (BitVec.ofNat 32 z - h).toInt = z - h.toInt := by
  rw [BitVec.toInt_sub, WordCmp.toInt_ofNat_of_lt (by omega)]
  simp only [Int.bmod_def]
  omega

/-- The block of point `t` at plane `z`, for heights in `[0, 255]`: the column's value from its height to sixteen above. -/
theorem block_apply (t : Fin grid0.N) (hs : Vec F S512x512 .i32) (cs : Vec F S512x512 .f32) (z : Fin 256) (x y : Fin 512)
    (ht : t.val = z.val / 16) (h0 : 0 ≤ (hs (ix2 x y)).toInt) (h1 : (hs (ix2 x y)).toInt ≤ 255) :
    k0_pay2 (grid0.coords t) hs cs (ix3 ⟨z.val % 16, Nat.mod_lt _ (by decide)⟩ x y)
      = if (hs (ix2 x y)).toInt ≤ z.val ∧ (z.val : Int) ≤ (hs (ix2 x y)).toInt + 16 then cs (ix2 x y)
        else FloatOps.ofBits .f32 0x00000000#32 := by
  have hz := z.isLt
  have hc : ∀ t : Fin grid0.N, (grid0.coords t 0).val = t.val := by decide +kernel
  have hw : BitVec.ofNat 32 (grid0.coords t 0).val * 16#32 + BitVec.ofNat 32 (z.val % 16) = BitVec.ofNat 32 z.val := by
    rw [hc, ht, ← BitVec.ofNat_mul, ← BitVec.ofNat_add]
    congr 1
    omega
  unfold k0_pay2
  pointwise
  rw [show IntOp.addi (Scalar.muli (BitVec.ofNat 32 (grid0.coords t 0).val) 16#32) (BitVec.ofNat 32 (z.val % 16))
      = BitVec.ofNat 32 z.val from hw,
    show IntOp.subi (BitVec.ofNat 32 z.val) (hs (ix2 x y)) = BitVec.ofNat 32 z.val - hs (ix2 x y) from rfl,
    WordCmp.cmpi_sge_eq, WordCmp.cmpi_sle_eq, WordCmp.andi_ofBool, above_toInt z.val hz _ h0 h1,
    show (0#32 : BitVec 32).toInt = 0 from by decide, show (16#32 : BitVec 32).toInt = 16 from by decide,
    ← Bool.decide_and, WordCmp.select_decide]
  exact if_congr (by constructor <;> intro h <;> omega) rfl rfl

end Block

section Result

/-- What the precondition says of the biome ids: each lies in `[0, 10)`. -/
theorem id_range (m : (ℓ : Loc KernelIdeal.nD KernelIdeal.τ KernelIdeal.sig) → Buf (Elt Ideal) ℓ)
    (h : Pre_KernelIdeal_biome_ids m) (c : Dev KernelIdeal.nD) (i : KernelIdeal.S1x512x512.Idx) :
    0 ≤ (KernelBlock.ids0 m c i).toInt ∧ (KernelBlock.ids0 m c i).toInt < 10 := by
  have : Subsingleton Pre_biome_ids.S_.Idx := ⟨fun a b => funext fun k => k.elim0⟩
  have e := congrFun (h c) (fun k => k.elim0)
  have e := Host.reduce_andi_all _ _ _ _ _ e i
  change IntOp.andi (IntOp.cmpi .sge (KernelBlock.ids0 m c i) 0#32) (IntOp.cmpi .slt (KernelBlock.ids0 m c i) 10#32) = 1#1 at e
  rw [WordCmp.cmpi_sge_eq, WordCmp.cmpi_slt_eq, WordCmp.andi_ofBool, WordCmp.ofBool_eq_one_iff, Bool.and_eq_true,
    decide_eq_true_eq, decide_eq_true_eq, show (0#32 : BitVec 32).toInt = 0 from by decide,
    show (10#32 : BitVec 32).toInt = 10 from by decide] at e
  exact e

/-- The reference's array after all its scatters is the kernel's result, on equal arguments whose ids lie in `[0, 10)`. -/
theorem layers_eq (m : (ℓ : Loc KernelIdeal.nD KernelIdeal.τ KernelIdeal.sig) → Buf (Elt Ideal) ℓ) (c : Dev KernelIdeal.nD)
    (V0 : Valuation ReferenceIdeal.τ ReferenceIdeal.sig (Elt Ideal))
    (hh : V0 (Proc.devRef .tc ReferenceIdeal.main_arg0) = KernelBlock.heights0 m c)
    (hi : RefLayers.ids V0 = KernelBlock.ids0 m c) (ht : RefLayers.table V0 = KernelBlock.table0 m c)
    (hid : ∀ i, 0 ≤ (KernelBlock.ids0 m c i).toInt ∧ (KernelBlock.ids0 m c i).toInt < 10) :
    RefLayers.layers V0 16 = KernelIdeal.Value.G3 m c := by
  funext i
  obtain ⟨z, x, y, rfl⟩ : ∃ (z : Fin 256) (x y : Fin 512), i = ix3 z x y := ⟨i 0, i 1, i 2, eq_ix3 i⟩
  have hz := z.isLt
  have hxy := hid (ix3 0 x y)
  have hN : KernelIdeal.grid0.N = 16 := KernelIdeal.Gen.N_0
  have eh : KernelIdeal.Gen.k0_pay3 (KernelBlock.heights0 m c) (ix2 x y) = RefLayers.height V0 (ix2 x y) := by
    rw [kept_height, RefLayers.height_apply, hh]
  have hr := RefLayers.height_range V0 x y
  rw [KernelBlock.result_apply m c z x y ⟨z.val / 16, by show z.val / 16 < KernelIdeal.grid0.N; omega⟩ rfl, block_apply _ _ _ z x y rfl (eh ▸ hr.1) (eh ▸ hr.2), eh,
    RefLayers.layers_apply V0 z x y 16 (le_refl _), RefLayers.colour_apply V0 (by rw [hi]; exact hid),
    kept_colour _ _ x y ⟨(KernelBlock.ids0 m c (ix3 0 x y)).toInt.toNat, by omega⟩ ?_]
  · simp only [hi, ht]
    rfl
  · apply BitVec.eq_of_toInt_eq
    rw [WordCmp.toInt_ofNat_of_lt (by dsimp only; omega)]
    dsimp only
    omega

end Result

end Cert.Equation

end
-- ==== Proof.lean ====
/-
  The claims: each program runs to its end with its arguments unchanged and no counter left raised, the idealized kernel is
  the kernel read at exact arithmetic, and it leaves the same array as the reference on biome ids in `[0, 10)`.
-/
module

public import proofs.«01_k».proof.Defs
public import proofs.«01_k».proof.Proof.Gen.Kernel.Frame
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference runs to its end, leaves its arguments, and has no counter to raise. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition, which the reference's run does not use. -/
theorem quiescent_ReferenceIdeal_pre_biome_ids : quiescent_ReferenceIdeal_pre_biome_ids := fun m ρ _ =>
  quiescent_ReferenceIdeal m ρ trivial

/-- On equal arguments whose biome ids lie in `[0, 10)`, the kernel and the reference end with the same array. -/
theorem algebraic_KernelIdeal_ReferenceIdeal_pre_biome_ids : algebraic_KernelIdeal_ReferenceIdeal_pre_biome_ids := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨h0, h1, h2⟩ := hagree c
  have e := Equation.layers_eq m c (StableHlo.launchContents m' c) h0 h1 h2 (Equation.id_range m hpre c)
  rw [RefLayers.layers, ← RefLayers.v406_eq] at e
  rw [(h c).1]
  exact e

/-- Everything the certificate states, put together. -/
theorem claim : Cert.Claim :=
  ⟨Cert.Kernel.Gen.facts, Cert.KernelIdeal.Gen.facts, Cert.ReferenceIdeal.Gen.facts, Cert.Pre_biome_ids.Gen.facts,
    fun m ρ _ => Cert.Kernel.Gen.frame m ρ, fun m ρ _ => Cert.KernelIdeal.Gen.frame m ρ,
    fun m ρ _ => Cert.KernelIdeal.Gen.frame m ρ, quiescent_ReferenceIdeal, quiescent_ReferenceIdeal_pre_biome_ids,
    (trivial : preserves_Kernel_KernelIdeal), algebraic_KernelIdeal_ReferenceIdeal_pre_biome_ids⟩

end Cert.Proof

end
